-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_seq" .f32 0x3BA3D70A#32 ((200⁻¹ : ℝ) : EReal)

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S200x4096 : Shape := ⟨2, ![200, 4096]⟩
abbrev S100000x128 : Shape := ⟨2, ![100000, 128]⟩
abbrev S1x128 : Shape := ⟨2, ![1, 128]⟩
abbrev S1 : Shape := ⟨1, ![1]⟩
abbrev S_ : Shape := ⟨0, ![]⟩

class Facts : Prop where
  bcast_S_S200x4096 : S_.BroadcastsInDim S200x4096 (![] : Fin 0 → Fin S200x4096.rank)
  reducesTo_S200x4096_S_d0_1 : S200x4096.ReducesTo [0, 1] S_
  h_S_ : 0 < S_.numel

variable [Facts]

def fn {F : FTy → Type} [FloatOps F] (main_arg0 : IVec S200x4096 32) (main_arg1 : FVec F S100000x128 .f32) (main_arg2 : FVec F S1x128 .f32) (main_arg3 : FVec F S1 .f32) : IVec S_ 1 :=
  let main_c : IVec S_ 32 := constantI S_ 32 0#32
  let main_v0 : IVec S200x4096 32 := broadcastInDim S200x4096 ![] bcast_S_S200x4096 main_c
  let main_v1 : IVec S200x4096 1 := cmpi .sge main_arg0 main_v0
  let main_c_0 : IVec S_ 32 := constantI S_ 32 100000#32
  let main_v2 : IVec S200x4096 32 := broadcastInDim S200x4096 ![] bcast_S_S200x4096 main_c_0
  let main_v3 : IVec S200x4096 1 := cmpi .slt main_arg0 main_v2
  let main_v4 : IVec S200x4096 1 := andi main_v1 main_v3
  let main_c_1 : IVec S_ 1 := constantI S_ 1 1#1
  let main_v5 : IVec S_ 1 := (fun x v => Host.reduce IntOp.andi x v reducesTo_S200x4096_S_d0_1 h_S_) main_v4 main_c_1
  main_v5
-- ==== Pre_in_range_finite.lean ====
abbrev S200x4096 : Shape := ⟨2, ![200, 4096]⟩
abbrev S100000x128 : Shape := ⟨2, ![100000, 128]⟩
abbrev S1x128 : Shape := ⟨2, ![1, 128]⟩
abbrev S1 : Shape := ⟨1, ![1]⟩
abbrev S_ : Shape := ⟨0, ![]⟩

class Facts : Prop where
  bcast_S_S200x4096 : S_.BroadcastsInDim S200x4096 (![] : Fin 0 → Fin S200x4096.rank)
  reducesTo_S200x4096_S_d0_1 : S200x4096.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : IVec S200x4096 32) (main_arg1 : FVec F S100000x128 .f32) (main_arg2 : FVec F S1x128 .f32) (main_arg3 : FVec F S1 .f32) : IVec S_ 1 :=
  let main_c : IVec S_ 32 := constantI S_ 32 0#32
  let main_v0 : IVec S200x4096 32 := broadcastInDim S200x4096 ![] bcast_S_S200x4096 main_c
  let main_v1 : IVec S200x4096 1 := cmpi .sge main_arg0 main_v0
  let main_c_0 : IVec S_ 32 := constantI S_ 32 100000#32
  let main_v2 : IVec S200x4096 32 := broadcastInDim S200x4096 ![] bcast_S_S200x4096 main_c_0
  let main_v3 : IVec S200x4096 1 := cmpi .slt main_arg0 main_v2
  let main_v4 : IVec S200x4096 1 := andi main_v1 main_v3
  let main_c_1 : IVec S_ 1 := constantI S_ 1 1#1
  let main_v5 : IVec S_ 1 := (fun x v => Host.reduce IntOp.andi x v reducesTo_S200x4096_S_d0_1 h_S_) main_v4 main_c_1
  let main_v6 : FVec F S100000x128 .f32 := Host.absf main_arg1
  let main_cst : FVec F S_ .f32 := constant S_ .f32 0x7F800000#32
  let main_v7 : FVec F S100000x128 .f32 := broadcastInDim S100000x128 ![] bcast_S_S100000x128 main_cst
  let main_v8 : IVec S100000x128 1 := cmpf .olt main_v6 main_v7
  let main_c_2 : IVec S_ 1 := constantI S_ 1 1#1
  let main_v9 : IVec S_ 1 := (fun x v => Host.reduce IntOp.andi x v reducesTo_S100000x128_S_d0_1 h_S_) main_v8 main_c_2
  let main_v10 : IVec S_ 1 := andi main_v5 main_v9
  let main_v11 : FVec F S1x128 .f32 := Host.absf main_arg2
  let main_cst_3 : FVec F S_ .f32 := constant S_ .f32 0x7F800000#32
  let main_v12 : FVec F S1x128 .f32 := broadcastInDim S1x128 ![] bcast_S_S1x128 main_cst_3
  let main_v13 : IVec S1x128 1 := cmpf .olt main_v11 main_v12
  let main_c_4 : IVec S_ 1 := constantI S_ 1 1#1
  let main_v14 : IVec S_ 1 := (fun x v => Host.reduce IntOp.andi x v reducesTo_S1x128_S_d0_1 h_S_) main_v13 main_c_4
  let main_v15 : IVec S_ 1 := andi main_v10 main_v14
  main_v15
-- ==== Kernel.lean ====
abbrev S200x4096 : Shape := ⟨2, ![200, 4096]⟩
abbrev S100000x128 : Shape := ⟨2, ![100000, 128]⟩
abbrev S1x128 : Shape := ⟨2, ![1, 128]⟩
abbrev S1 : Shape := ⟨1, ![1]⟩
abbrev S5x20000x128 : Shape := ⟨3, ![5, 20000, 128]⟩
abbrev S1x1x100096 : Shape := ⟨3, ![1, 1, 100096]⟩
abbrev S1x20000x128 : Shape := ⟨3, ![1, 20000, 128]⟩
abbrev S20000x128 : Shape := ⟨2, ![20000, 128]⟩
abbrev S1x20000 : Shape := ⟨2, ![1, 20000]⟩
abbrev S1x1x20000 : Shape := ⟨3, ![1, 1, 20000]⟩
abbrev S4096 : Shape := ⟨1, ![4096]⟩
abbrev S200x128 : Shape := ⟨2, ![200, 128]⟩
abbrev S100096 : Shape := ⟨1, ![100096]⟩
abbrev S50048 : Shape := ⟨1, ![50048]⟩
abbrev S128 : Shape := ⟨1, ![128]⟩
abbrev S_ : Shape := ⟨0, ![]⟩
abbrev S1x1x50048 : Shape := ⟨3, ![1, 1, 50048]⟩
abbrev S25024 : Shape := ⟨1, ![25024]⟩
abbrev S16 : Shape := ⟨1, ![16]⟩
abbrev S1x16 : Shape := ⟨2, ![1, 16]⟩

abbrev nBuf : Table → Nat
  | .hbm => 7
  | .local .tc .vmem => 4
  | .local .tc .smem => 1
  | .shared => 1
  | .local .scVector .vmem => 3
  | _ => 0

abbrev bufTy : (tb : Table) → Fin (nBuf tb) → BufTy
  | .hbm, ⟨0, _⟩ => ⟨S200x4096, .i32⟩
  | .hbm, ⟨1, _⟩ => ⟨S100000x128, .f32⟩
  | .hbm, ⟨2, _⟩ => ⟨S1x128, .f32⟩
  | .hbm, ⟨3, _⟩ => ⟨S1, .f32⟩
  | .hbm, ⟨4, _⟩ => ⟨S5x20000x128, .f32⟩
  | .hbm, ⟨5, _⟩ => ⟨S1x1x100096, .f32⟩
  | .hbm, ⟨6, _⟩ => ⟨S4096, .f32⟩
  | .local .tc .vmem, ⟨0, _⟩ => ⟨S1x20000x128, .f32⟩
  | .local .tc .vmem, ⟨1, _⟩ => ⟨S1x20000x128, .f32⟩
  | .local .tc .vmem, ⟨2, _⟩ => ⟨S1x128, .f32⟩
  | .local .tc .vmem, ⟨3, _⟩ => ⟨S1x1x100096, .f32⟩
  | .local .tc .smem, ⟨0, _⟩ => ⟨S1, .f32⟩
  | .shared, ⟨0, _⟩ => ⟨S50048, .f32⟩
  | .local .scVector .vmem, ⟨0, _⟩ => ⟨S200x128, .i32⟩
  | .local .scVector .vmem, ⟨1, _⟩ => ⟨S100096, .f32⟩
  | .local .scVector .vmem, ⟨2, _⟩ => ⟨S128, .f32⟩
  | _, _ => ⟨S200x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | _ => false

abbrev sig : RefSig :=
  ofTables nBuf rfl bufTy 5 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_v1_scv : Ref sig .scVector := ⟨.hbm, 5, rfl⟩
abbrev main_v2_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg2_0 : Ref sig .tc := ⟨.smem, 0, rfl⟩
abbrev cc1_scratch2 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch3 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_6 : BitVec 32 := 0#32
  let v11 : BitVec 1 := Scalar.cmpi .ne v10 c0_i32_6
  v11

def k0_cond2 (i : grid0.Coords) : BitVec 1 :=
  let arg0 : BitVec 32 := BitVec.ofNat 32 (i 0).val
  let c1_i32 : BitVec 32 := 1#32
  let v12 : BitVec 1 := Scalar.cmpi .eq arg0 c1_i32
  let v13 : BitVec 32 := Scalar.extui v12
  let c0_i32_7 : BitVec 32 := 0#32
  let v14 : BitVec 1 := Scalar.cmpi .ne v13 c0_i32_7
  v14

def k0_cond3 (i : grid0.Coords) : BitVec 1 :=
  let arg0 : BitVec 32 := BitVec.ofNat 32 (i 0).val
  let c2_i32 : BitVec 32 := 2#32
  let v15 : BitVec 1 := Scalar.cmpi .eq arg0 c2_i32
  let v16 : BitVec 32 := Scalar.extui v15
  let c0_i32_8 : BitVec 32 := 0#32
  let v17 : BitVec 1 := Scalar.cmpi .ne v16 c0_i32_8
  v17

def k0_cond4 (i : grid0.Coords) : BitVec 1 :=
  let arg0 : BitVec 32 := BitVec.ofNat 32 (i 0).val
  let c3_i32 : BitVec 32 := 3#32
  let v18 : BitVec 1 := Scalar.cmpi .eq arg0 c3_i32
  let v19 : BitVec 32 := Scalar.extui v18
  let c0_i32_9 : BitVec 32 := 0#32
  let v20 : BitVec 1 := Scalar.cmpi .ne v19 c0_i32_9
  v20

def k0_cond5 (i : grid0.Coords) : BitVec 1 :=
  let arg0 : BitVec 32 := BitVec.ofNat 32 (i 0).val
  let c4_i32 : BitVec 32 := 4#32
  let v21 : BitVec 1 := Scalar.cmpi .eq arg0 c4_i32
  let v22 : BitVec 32 := Scalar.extui v21
  let c0_i32_10 : BitVec 32 := 0#32
  let v23 : BitVec 1 := Scalar.cmpi .ne v22 c0_i32_10
  v23

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x100096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k1_t1_loop : Scf.Loop 32 :=
  let c0_i32_38 : BitVec 32 := 0#32
  let c200_i32 : BitVec 32 := 200#32
  let v46 : BitVec 32 := Scalar.addi c0_i32_38 c200_i32
  let c1_i32 : BitVec 32 := 1#32
  ⟨c0_i32_38, v46, c1_i32⟩
def k1_off2 (k1_t1 : Fin k1_t1_loop.trips) : Fin 2 → Nat :=
  let c0_i32_38 : BitVec 32 := 0#32
  let c1_i32 : BitVec 32 := 1#32
  let arg11 : BitVec 32 := Scf.iv c0_i32_38 c1_i32 k1_t1
  let v56 : Index := Scalar.indexCast arg11
  let c0_41 : Index := 0#32
  ![v56.toNat, 0]

def k1_chk1 (v57 : IVec S16 32) : Prop :=
  (∀ a x, ((![v57] : Fin 1 → IVec S16 32) a x).toNat < S100096.size a)
theorem k1_idx1_inb : ∀ (v57 : IVec S16 32) (k1_hw1 : k1_chk1 v57), ∀ a x, ((![v57] : Fin 1 → IVec S16 32) a x).toNat < S100096.size a := fun v57 k1_hw1 => k1_hw1
def k1_off3 (k1_t1 : Fin k1_t1_loop.trips) : Fin 2 → Nat :=
  let c0_i32_38 : BitVec 32 := 0#32
  let c1_i32 : BitVec 32 := 1#32
  let arg11 : BitVec 32 := Scf.iv c0_i32_38 c1_i32 k1_t1
  let v60 : Index := Scalar.indexCast arg11
  let c16_42 : Index := 16#32
  ![v60.toNat, 16]

def k1_chk2 (v61 : IVec S16 32) : Prop :=
  (∀ a x, ((![v61] : Fin 1 → IVec S16 32) a x).toNat < S100096.size a)
theorem k1_idx2_inb : ∀ (v61 : IVec S16 32) (k1_hw2 : k1_chk2 v61), ∀ a x, ((![v61] : Fin 1 → IVec S16 32) a x).toNat < S100096.size a := fun v61 k1_hw2 => k1_hw2
def k1_off4 (k1_t1 : Fin k1_t1_loop.trips) : Fin 2 → Nat :=
  let c0_i32_38 : BitVec 32 := 0#32
  let c1_i32 : BitVec 32 := 1#32
  let arg11 : BitVec 32 := Scf.iv c0_i32_38 c1_i32 k1_t1
  let v64 : Index := Scalar.indexCast arg11
  let c32_43 : Index := 32#32
  ![v64.toNat, 32]

def k1_chk3 (v65 : IVec S16 32) : Prop :=
  (∀ a x, ((![v65] : Fin 1 → IVec S16 32) a x).toNat < S100096.size a)
theorem k1_idx3_inb : ∀ (v65 : IVec S16 32) (k1_hw3 : k1_chk3 v65), ∀ a x, ((![v65] : Fin 1 → IVec S16 32) a x).toNat < S100096.size a := fun v65 k1_hw3 => k1_hw3
def k1_off5 (k1_t1 : Fin k1_t1_loop.trips) : Fin 2 → Nat :=
  let c0_i32_38 : BitVec 32 := 0#32
  let c1_i32 : BitVec 32 := 1#32
  let arg11 : BitVec 32 := Scf.iv c0_i32_38 c1_i32 k1_t1
  let v68 : Index := Scalar.indexCast arg11
  let c48_44 : Index := 48#32
  ![v68.toNat, 48]

def k1_chk4 (v69 : IVec S16 32) : Prop :=
  (∀ a x, ((![v69] : Fin 1 → IVec S16 32) a x).toNat < S100096.size a)
theorem k1_idx4_inb : ∀ (v69 : IVec S16 32) (k1_hw4 : k1_chk4 v69), ∀ a x, ((![v69] : Fin 1 → IVec S16 32) a x).toNat < S100096.size a := fun v69 k1_hw4 => k1_hw4
def k1_off6 (k1_t1 : Fin k1_t1_loop.trips) : Fin 2 → Nat :=
  let c0_i32_38 : BitVec 32 := 0#32
  let c1_i32 : BitVec 32 := 1#32
  let arg11 : BitVec 32 := Scf.iv c0_i32_38 c1_i32 k1_t1
  let v72 : Index := Scalar.indexCast arg11
  let c64_45 : Index := 64#32
  ![v72.toNat, 64]

def k1_chk5 (v73 : IVec S16 32) : Prop :=
  (∀ a x, ((![v73] : Fin 1 → IVec S16 32) a x).toNat < S100096.size a)
theorem k1_idx5_inb : ∀ (v73 : IVec S16 32) (k1_hw5 : k1_chk5 v73), ∀ a x, ((![v73] : Fin 1 → IVec S16 32) a x).toNat < S100096.size a := fun v73 k1_hw5 => k1_hw5
def k1_off7 (k1_t1 : Fin k1_t1_loop.trips) : Fin 2 → Nat :=
  let c0_i32_38 : BitVec 32 := 0#32
  let c1_i32 : BitVec 32 := 1#32
  let arg11 : BitVec 32 := Scf.iv c0_i32_38 c1_i32 k1_t1
  let v76 : Index := Scalar.indexCast arg11
  let c80_46 : Index := 80#32
  ![v76.toNat, 80]

def k1_chk6 (v77 : IVec S16 32) : Prop :=
  (∀ a x, ((![v77] : Fin 1 → IVec S16 32) a x).toNat < S100096.size a)
theorem k1_idx6_inb : ∀ (v77 : IVec S16 32) (k1_hw6 : k1_chk6 v77), ∀ a x, ((![v77] : Fin 1 → IVec S16 32) a x).toNat < S100096.size a := fun v77 k1_hw6 => k1_hw6
def k1_off8 (k1_t1 : Fin k1_t1_loop.trips) : Fin 2 → Nat :=
  let c0_i32_38 : BitVec 32 := 0#32
  let c1_i32 : BitVec 32 := 1#32
  let arg11 : BitVec 32 := Scf.iv c0_i32_38 c1_i32 k1_t1
  let v80 : Index := Scalar.indexCast arg11
  let c96_47 : Index := 96#32
  ![v80.toNat, 96]

def k1_chk7 (v81 : IVec S16 32) : Prop :=
  (∀ a x, ((![v81] : Fin 1 → IVec S16 32) a x).toNat < S100096.size a)
theorem k1_idx7_inb : ∀ (v81 : IVec S16 32) (k1_hw7 : k1_chk7 v81), ∀ a x, ((![v81] : Fin 1 → IVec S16 32) a x).toNat < S100096.size a := fun v81 k1_hw7 => k1_hw7
def k1_off9 (k1_t1 : Fin k1_t1_loop.trips) : Fin 2 → Nat :=
  let c0_i32_38 : BitVec 32 := 0#32
  let c1_i32 : BitVec 32 := 1#32
  let arg11 : BitVec 32 := Scf.iv c0_i32_38 c1_i32 k1_t1
  let v84 : Index := Scalar.indexCast arg11
  let c112_48 : Index := 112#32
  ![v84.toNat, 112]

def k1_chk8 (v85 : IVec S16 32) : Prop :=
  (∀ a x, ((![v85] : Fin 1 → IVec S16 32) a x).toNat < S100096.size a)
theorem k1_idx8_inb : ∀ (v85 : IVec S16 32) (k1_hw8 : k1_chk8 v85), ∀ a x, ((![v85] : Fin 1 → IVec S16 32) a x).toNat < S100096.size a := fun v85 k1_hw8 => k1_hw8
def k1_off10 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_seq" => some ((200⁻¹ : ℝ) : EReal)
  | _ => none
-- ==== ReferenceIdeal.lean ====
abbrev S200x4096 : Shape := ⟨2, ![200, 4096]⟩
abbrev S100000x128 : Shape := ⟨2, ![100000, 128]⟩
abbrev S1x128 : Shape := ⟨2, ![1, 128]⟩
abbrev S1 : Shape := ⟨1, ![1]⟩
abbrev S_ : Shape := ⟨0, ![]⟩
abbrev S200x4096x1 : Shape := ⟨3, ![200, 4096, 1]⟩
abbrev S1x1x1 : Shape := ⟨3, ![1, 1, 1]⟩
abbrev S200x4096x128 : Shape := ⟨3, ![200, 4096, 128]⟩
abbrev S4096x128 : Shape := ⟨2, ![4096, 128]⟩
abbrev S128x1 : Shape := ⟨2, ![128, 1]⟩
abbrev S4096x1 : Shape := ⟨2, ![4096, 1]⟩
abbrev S1x1 : Shape := ⟨2, ![1, 1]⟩
abbrev S4096 : Shape := ⟨1, ![4096]⟩

abbrev nBuf : Space → Nat
  | .hbm => 38
  | .vmem => 0
  | .smem => 0
  | _ => 0

abbrev bufTy : (tb : Table) → Fin (tcTables nBuf tb) → BufTy
  | .hbm, ⟨0, _⟩ => ⟨S200x4096, .i32⟩
  | .hbm, ⟨1, _⟩ => ⟨S100000x128, .f32⟩
  | .hbm, ⟨2, _⟩ => ⟨S1x128, .f32⟩
  | .hbm, ⟨3, _⟩ => ⟨S1, .f32⟩
  | .hbm, ⟨4, _⟩ => ⟨S_, .i32⟩
  | .hbm, ⟨5, _⟩ => ⟨S200x4096, .i32⟩
  | .hbm, ⟨6, _⟩ => ⟨S200x4096, .i1⟩
  | .hbm, ⟨7, _⟩ => ⟨S_, .i32⟩
  | .hbm, ⟨8, _⟩ => ⟨S200x4096, .i32⟩
  | .hbm, ⟨9, _⟩ => ⟨S200x4096, .i32⟩
  | .hbm, ⟨10, _⟩ => ⟨S200x4096, .i32⟩
  | .hbm, ⟨11, _⟩ => ⟨S200x4096x1, .i32⟩
  | .hbm, ⟨12, _⟩ => ⟨S1, .i32⟩
  | .hbm, ⟨13, _⟩ => ⟨S_, .i32⟩
  | .hbm, ⟨14, _⟩ => ⟨S200x4096x1, .i32⟩
  | .hbm, ⟨15, _⟩ => ⟨S200x4096x1, .i1⟩
  | .hbm, ⟨16, _⟩ => ⟨S1x1x1, .i32⟩
  | .hbm, ⟨17, _⟩ => ⟨S200x4096x1, .i32⟩
  | .hbm, ⟨18, _⟩ => ⟨S200x4096x1, .i1⟩
  | .hbm, ⟨19, _⟩ => ⟨S200x4096x1, .i1⟩
  | .hbm, ⟨20, _⟩ => ⟨S_, .i1⟩
  | .hbm, ⟨21, _⟩ => ⟨S200x4096, .i1⟩
  | .hbm, ⟨22, _⟩ => ⟨S200x4096x128, .f32⟩
  | .hbm, ⟨23, _⟩ => ⟨S200x4096x128, .i1⟩
  | .hbm, ⟨24, _⟩ => ⟨S_, .f32⟩
  | .hbm, ⟨25, _⟩ => ⟨S200x4096x128, .f32⟩
  | .hbm, ⟨26, _⟩ => ⟨S200x4096x128, .f32⟩
  | .hbm, ⟨27, _⟩ => ⟨S_, .f32⟩
  | .hbm, ⟨28, _⟩ => ⟨S4096x128, .f32⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S128x1, .f32⟩
  | .hbm, ⟨33, _⟩ => ⟨S4096x1, .f32⟩
  | .hbm, ⟨34, _⟩ => ⟨S1x1, .f32⟩
  | .hbm, ⟨35, _⟩ => ⟨S4096x1, .f32⟩
  | .hbm, ⟨36, _⟩ => ⟨S4096x1, .f32⟩
  | .hbm, ⟨37, _⟩ => ⟨S4096, .f32⟩
  | _, _ => ⟨S200x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩

abbrev nD : Nat := 1
abbrev τ : Topo := Topo.v7x

variable {F : FTy → Type} [FloatOps F]
-- ==== Proof.Setup.lean ====
/-
  The kernel as the launch theorem of a SparseCore call sees it: the configuration of the one vector-subcore call, the
  three stages of that call (its three subcore barriers), the resource algebra of the certificate, and the names of the
  buffers and of the barrier semaphores.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

/-- The labels of the whole program: the kernels' and the pipeline's. -/
abbrev ΛP : Labels := Pipeline.Sig Λ₀ (Fin 1) fun p => (pcfgs (F := F) p).Adm
/-- The SparseCore call. -/
abbrev K : SparseCore.Cfg τ sig (ΛP (F := F)) 1 := sc (F := F)
/-- A core of the call's mesh, as a SparseCore of the device. -/
abbrev coreOf (c : Fin ((K (F := F)).nCore 0)) : Fin τ.nSC := (K (F := F)).core 0 c
/-- The bodies of the whole program. -/
abbrev D : Defs nD τ sig (Elt F) (ΛP (F := F)) := Pipeline.defs pcfgs defs₀
/-- No loop of the kernels needs a variant. -/
abbrev 𝒱₀ : Variants := Variants.none
/-- Nor does one of the whole program. -/
abbrev 𝒱 : Variants := 𝒱₀.lift
/-- The one variant that there is. -/
abbrev v₀ : 𝒱.V := Sum.inl none

/-- The TensorCore's pipeline has no prefetched table. -/
abbrev adm : (p : Fin 1) → (pcfgs (F := F) p).Adm := fun p => (cfgs p).toPCfg_adm

/-- The launch's semaphores are distinct and not scoped, and no buffer of a SparseCore is shared with its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The one call has three stages, one for each of its subcore barriers: a barrier's units are at the index of its stage. -/
@[reducible] def blocks : Blocks 1 3 where
  first := fun _ => 0
  last := fun _ => 2
  fst := fun k => if k = 0 then 0 else 3
  blk := fun _ ι => ∃ j, ι = some j
  first_le_last := fun _ => by decide
  fst_val := fun q => by obtain rfl : q = 0 := Subsingleton.elim _ _; rfl
  fst_le := fun n => by split <;> omega
  last_lt_fst := fun q => by rw [if_neg (Nat.succ_ne_zero _)]; decide
  blk_iff := fun _ ι => ⟨fun ⟨j, h⟩ => ⟨j, Fin.zero_le _, Fin.le_last _, h⟩, fun ⟨j, _, _, h⟩ => ⟨j, h⟩⟩
attribute [local instance] blocks

/-! ## The resource algebra -/

/-- What the certificate names a hand-over by: its SparseCore, its barrier, and the tile it is to or from. -/
abbrev Key : Type := (Dev nD × Fin τ.nSC) × Fin 3 × Fin τ.nSub
/-- A duty on a barrier semaphore: the arrival of one tile at one barrier. -/
abbrev Arr : Type := Fin 3 × Fin τ.nSub

/-- The launch's handshakes' rounds. -/
abbrev UH : Type := URounds (GSem nD τ sig) ℕ
/-- The barrier semaphores' rounds: a duty is an arrival. -/
abbrev UB : Type := URounds (GSem nD τ sig) Arr
/-- The hand-overs' rounds. -/
abbrev UE : Type := URounds Key ℕ
/-- The rounds of the pipeline's staging buffers, of the TensorCore's call. -/
abbrev UP : Type := URounds (GSem nD τ sig) Unit
/-- The resource algebra: the four kinds of rounds, and the counters of the copies in flight. -/
abbrev UU : Type := UH × (UB × (UE × (UP × Counters)))

local notation "𝕄" => MT nD τ sig (HIx 3) (Elt F) ℕ UU ℕ

/-- The algebra in the model's resources. -/
abbrev uAll : Emb UU (MT nD τ sig (HIx 3) (Elt F) ℕ UU ℕ) := (uEmb (nD := nD) (sig := sig) (Ix := HIx 3) (Val := Elt F) (Name := ℕ) (U := UU) (Lvl := ℕ)).toEmb
/-- The handshakes' rounds in them. -/
abbrev EH : Emb UH (MT nD τ sig (HIx 3) (Elt F) ℕ UU ℕ) := embL
/-- The barrier semaphores' rounds. -/
def EB : Emb UB (MT nD τ sig (HIx 3) (Elt F) ℕ UU ℕ) :=
  ((Emb.inl : Emb UB (UB × (UE × (UP × Counters)))).trans (Emb.inr : Emb (UB × (UE × (UP × Counters))) UU)).trans uAll
/-- What is left of the algebra past the barriers' rounds. -/
def ER : Emb (UE × (UP × Counters)) (MT nD τ sig (HIx 3) (Elt F) ℕ UU ℕ) :=
  ((Emb.inr : Emb (UE × (UP × Counters)) (UB × (UE × (UP × Counters)))).trans (Emb.inr : Emb (UB × (UE × (UP × Counters))) UU)).trans uAll
/-- The hand-overs' rounds. -/
def EE : Emb UE (MT nD τ sig (HIx 3) (Elt F) ℕ UU ℕ) := (Emb.inl : Emb UE (UE × (UP × Counters))).trans ER
/-- The staging buffers' rounds. -/
def EP : Emb UP (MT nD τ sig (HIx 3) (Elt F) ℕ UU ℕ) :=
  ((Emb.inl : Emb UP (UP × Counters)).trans (Emb.inr : Emb (UP × Counters) (UE × (UP × Counters)))).trans ER
/-- The barriers' rounds may stand in an invariant. -/
instance EB_landsIn : (EB : Emb UB 𝕄).LandsIn (upEmb : UEmb _ 𝕄) := by unfold EB; infer_instance
/-- The hand-overs' rounds may stand in an invariant. -/
instance EE_landsIn : (EE : Emb UE 𝕄).LandsIn (upEmb : UEmb _ 𝕄) := by unfold EE ER; infer_instance
/-- The staging buffers' rounds may stand in an invariant. -/
instance EP_landsIn : (EP : Emb UP 𝕄).LandsIn (upEmb : UEmb _ 𝕄) := by unfold EP ER; infer_instance

/-! ## The buffers and the barrier semaphores -/

/-- The row numbers. -/
abbrev xLoc (d : Dev nD) : Loc nD τ sig := (SparseCore.T d).loc main_arg0
/-- The embedding table. -/
abbrev eLoc (d : Dev nD) : Loc nD τ sig := (SparseCore.T d).loc main_arg1
/-- The weights. -/
abbrev wLoc (d : Dev nD) : Loc nD τ sig := (SparseCore.T d).loc main_arg2
/-- The bias. -/
abbrev bLoc (d : Dev nD) : Loc nD τ sig := (SparseCore.T d).loc main_arg3
/-- The embedding table in five groups of rows. -/
abbrev rLoc (d : Dev nD) : Loc nD τ sig := (SparseCore.T d).loc main_v0
/-- The table `p` of one word a row. -/
abbrev pLoc (d : Dev nD) : Loc nD τ sig := (SparseCore.T d).loc main_v1
/-- The result. -/
abbrev oLoc (d : Dev nD) : Loc nD τ sig := (SparseCore.T d).loc main_v2

/-- SparseCore `c`'s shared table, as every tile of it addresses it. -/
abbrev shRef (c : Fin τ.nSC) : DevRef τ sig := ⟨.shared, ⟨0, by decide⟩, c⟩
/-- Its place on device `d`. -/
abbrev shLoc (d : Dev nD) (c : Fin τ.nSC) : Loc nD τ sig := (d, shRef c)

/-- Tile `(c, j)`'s barrier semaphore of device `d`. -/
abbrev bcell (d : Dev nD) (c : Fin τ.nSC) (j : Fin τ.nSub) : GSem nD τ sig := (V d c j, .reg sc_bar0)

/-- The barrier's semaphore is not the one that starts a tile. -/
theorem sc_bar0_ne_go : (sc_bar0 : Sem sig) ≠ sc_go := by decide

/-- What the launch has a tile owe for barrier `k`: a unit on every tile's barrier semaphore of its SparseCore, at the barrier's
    index. -/
def oxB (d : Dev nD) (c : Fin τ.nSC) (k : Fin 3) : CellTallies nD τ sig (HIx 3) := ∑ j : Fin τ.nSub, tallyAt (bcell d c j) (some k) 1

/-- Nothing is owed for a barrier outside the stages. -/
theorem oxB_none (d : Dev nD) (c : Fin τ.nSC) (k : Fin 3) (g : GSem nD τ sig) : oxB d c k g none = 0 := by
  unfold oxB
  rw [Finset.sum_apply, Finsupp.finsetSum_apply]
  exact Finset.sum_eq_zero fun j _ => by rw [tallyAt_apply, if_neg (fun e => nomatch e.2)]

/-- What is owed for barrier `k` is owed on a tile's barrier semaphore, at the barrier's index. -/
theorem oxB_apply_pos {d : Dev nD} {c : Fin τ.nSC} {k : Fin 3} {g : GSem nD τ sig} {ι : HIx 3} (h : 0 < oxB d c k g ι) : ∃ j : Fin τ.nSub, g = bcell d c j ∧ ι = some k := by
  unfold oxB at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- The level of a barrier's units. -/
theorem lev_bcell (d : Dev nD) (c : Fin τ.nSC) (j : Fin τ.nSub) (k : Fin 3) : (K (F := F)).lev (bcell d c j) (some k) = 8 * k.val + 3 :=
  (K (F := F)).lev_V_reg d c j (show (sc_bar0 : Sem sig) ≠ (K (F := F)).go from sc_bar0_ne_go) k

/-! ## The values -/

/-- Share `j` of the sixteen the shared table's full share is dealt into. -/
abbrev shareOf (j : Fin τ.nSub) : PosShare TreeShare := Transfers.dealShare fullShare τ.nSub j.val

end Cert.Proof.Pool

end
-- ==== Proof.Handover.lean ====
/-
  The certificate of the kernel's three subcore barriers on one barrier semaphore.

  A tile that has left barrier `k` may arrive at barrier `k + 1` while another still waits at `k`, so a wait's sixteen
  units need not be the sixteen of its own barrier. The barrier semaphore of a tile therefore has ONE round of
  forty-eight unit duties, one for each tile's arrival at each barrier, and an arrival pays only knowledge: what the
  arriving tile has deposited for this barrier, and that every deposit for the earlier barriers is made. Having consumed
  `16 (k + 1)` units a tile holds the knowledge of as many arrivals, and among those either all are at barriers up to `k`,
  and then they are all the arrivals at those, or one is at a later barrier: in both cases all deposits for barrier `k`
  are made (`full_of_card`).

  What is handed over at a barrier — a share of the SparseCore's shared table — lies in an invariant, one for each key,
  where its giver deposits it (`hand_give`, from which it knows the deposit is made) and its taker finds it
  (`hand_take`).
-/
module

public import proofs.«01_k».proof.Proof.Setup
public import Idealize.ShloMosaic.Lib.Invariants

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] blocks

variable {F : FTy → Type} [FloatOps F] [Named F]

local notation "𝕄" => MT nD τ sig (HIx 3) (Elt F) ℕ UU ℕ

/-- The table of projected rows, by device and row number. -/
abbrev Tab (F : FTy → Type) : Type := Dev nD → ℕ → Elt F .f32

variable (tb : Tab F)

/-! ## The hand-overs -/

/-- What the shared table holds when it is handed over at a barrier: its first half's words at barrier 0, its second half's
    (those of rows that exist) at barrier 2; at barrier 1 it is handed back, whatever it holds. -/
def Holds (d : Dev nD) (k : Fin 3) (f : S50048.Idx → Elt F .f32) : Prop :=
  match k with
  | 0 => ∀ i, f i = tb d (i 0).val
  | 1 => True
  | 2 => ∀ i, 50048 + (i 0).val < 100000 → f i = tb d (50048 + (i 0).val)

/-- A tile's share of the shared table, in the state of barrier `k`. -/
def handed (x : Key) : sProp 𝕄 := iprop(∃ f : Buf (Elt F) (shLoc x.1.1 x.1.2), ⌜Holds tb x.1.1 x.2.1 f⌝ ∗ shLoc x.1.1 x.1.2 ↦{shareOf x.2.2} f)

/-- It may stand in an invariant. -/
instance handed_storable (x : Key) : BI.Storable (upEmb : UEmb _ 𝕄) (handed tb x) := by unfold handed; infer_instance

/-- Knowledge that the hand-over is deposited. -/
abbrev given (x : Key) : sProp 𝕄 := reached EE x 1

/-- The place of a hand-over: not yet deposited; deposited and there; or taken. -/
def place (x : Key) : sProp 𝕄 := iprop(roundAuth EE x 0 ∅ 0 ∨ (roundAuth EE x 1 ∅ 0 ∗ (handed tb x ∨ dutyTok EE x 0 0)))

/-- It may stand in an invariant. -/
instance place_storable (x : Key) : BI.Storable (upEmb : UEmb _ 𝕄) (place tb x) := by
  unfold place roundAuth dutyTok; infer_instance

/-- The giver deposits, and knows that it has. -/
theorem hand_give (κ : ℕ) (x : Key) : iprop(inv κ (place tb x) ∗ atPos EE x 0 ∅ 0 ∗ handed tb x) ⊢ |={Set.univ}=> (given x : sProp 𝕄) := by
  iintro ⟨Hinv, Hat, Hx⟩
  imod (inv_acc (P := place tb x) (Set.mem_univ κ)) $$ Hinv with ⟨Hb, Hclose⟩
  unfold place
  icases Hb with (Ha | ⟨Ha, -⟩)
  · imod (roundAuth_atPos_move EE (g := x) 1 ∅ 0 (Nat.zero_le 1)) $$ [Ha Hat] with ⟨Ha, -⟩
    · isplitl [Ha] <;> iassumption
    imod (roundAuth_witness EE) $$ Ha with ⟨Ha, Hr⟩
    ihave Hc := Hclose $$ [Ha Hx]
    · iright
      isplitl [Ha]; · iexact Ha
      ileft; iexact Hx
    imod Hc
    imodintro
    iexact Hr
  · iexfalso
    ihave H := (roundAuth_atPos_agree EE (g := x)) $$ [Ha Hat]
    · isplitl [Ha] <;> iassumption
    icases H with %h
    exact absurd h.1 (by decide)

/-- The taker, knowing the deposit made, takes it. -/
theorem hand_take (κ : ℕ) (x : Key) : iprop(inv κ (place tb x) ∗ given x ∗ dutyTok EE x 0 0) ⊢ |={Set.univ}=> (handed tb x : sProp 𝕄) := by
  iintro ⟨Hinv, Hr, Htok⟩
  imod (inv_acc (P := place tb x) (Set.mem_univ κ)) $$ Hinv with ⟨Hb, Hclose⟩
  unfold place
  icases Hb with (Ha | ⟨Ha, Hx | Ht⟩)
  · iexfalso
    ihave H := (roundAuth_reached_le EE (g := x)) $$ [Ha Hr]
    · isplitl [Ha] <;> iassumption
    icases H with %h
    exact absurd h (by decide)
  · ihave Hc := Hclose $$ [Ha Htok]
    · iright
      isplitl [Ha]; · iexact Ha
      iright; iexact Htok
    imod Hc
    imodintro
    iexact Hx
  · iexfalso
    iapply (dutyTok_dutyTok_false EE (g := x))
    isplitl [Ht] <;> iassumption

/-! ## The barrier semaphores' schedule -/

/-- The hand-overs tile `A` deposits for barrier `k`: tile 0 everyone's, at barriers 0 and 2; each tile its own, at barrier 1. -/
def deposits (k : Fin 3) (A j : Fin τ.nSub) : Bool := if k = 1 then decide (A = j) else decide (A.val = 0)

/-- That tile `A` has deposited what it hands over at barrier `k`. -/
def dep (d : Dev nD) (c : Fin τ.nSC) (k : Fin 3) (A : Fin τ.nSub) : sProp 𝕄 :=
  bigSep (Finset.univ.filter fun j => deposits k A j = true) fun j => given ((d, c), k, j)
/-- That every deposit for barrier `k` is made. -/
def full (d : Dev nD) (c : Fin τ.nSC) (k : Fin 3) : sProp 𝕄 := bigSep Finset.univ fun j => given ((d, c), k, j)
/-- What an arrival tells: the arriving tile's deposits for this barrier, and all the earlier barriers'. -/
def told (d : Dev nD) (c : Fin τ.nSC) (a : Arr) : sProp 𝕄 := iprop(dep d c a.1 a.2 ∗ bigSep (Finset.univ.filter fun k => k < a.1) fun k => full d c k)

/-- An arrival tells the arriving tile's deposits, -/
theorem told_dep (d : Dev nD) (c : Fin τ.nSC) (a : Arr) : (told d c a : sProp 𝕄) ⊢ dep d c a.1 a.2 := sep_elim_left
/-- and that all deposits for an earlier barrier are made. -/
theorem told_full (d : Dev nD) (c : Fin τ.nSC) (a : Arr) {k : Fin 3} (hk : k < a.1) : (told d c a : sProp 𝕄) ⊢ full d c k :=
  sep_elim_right.trans (SparseCore.ent (bigSep_elim (Φ := fun k => (full d c k : sProp 𝕄)) (Finset.mem_filter.mpr ⟨Finset.mem_univ k, hk⟩)))

/-- The knowledge of deposits is not used up: -/
instance dep_persistent (d : Dev nD) (c : Fin τ.nSC) (k : Fin 3) (A : Fin τ.nSub) : BI.Persistent (dep d c k A : sProp 𝕄) := by unfold dep; infer_instance
/-- nor that of all deposits for a barrier, -/
instance full_persistent (d : Dev nD) (c : Fin τ.nSC) (k : Fin 3) : BI.Persistent (full d c k : sProp 𝕄) := by unfold full; infer_instance
/-- nor what an arrival tells, -/
instance told_persistent (d : Dev nD) (c : Fin τ.nSC) (a : Arr) : BI.Persistent (told d c a : sProp 𝕄) := by unfold told; infer_instance
/-- which may stand in an invariant. -/
instance told_storable (d : Dev nD) (c : Fin τ.nSC) (a : Arr) : BI.Storable (upEmb : UEmb _ 𝕄) (told d c a) := by
  unfold told dep full given reached; infer_instance

/-- Whether a semaphore is a tile's barrier semaphore. -/
def isBar (g : GSem nD τ sig) : Bool :=
  match g with
  | ((_, .scVector _ _), sm) => decide (sm = .reg sc_bar0)
  | _ => false

/-- A tile's barrier semaphore is one. -/
@[simp] theorem isBar_bcell (d : Dev nD) (c : Fin τ.nSC) (j : Fin τ.nSub) : isBar (bcell d c j) = true := by simp [isBar]

/-- What an arrival on semaphore `g` tells. -/
def bPay (g : GSem nD τ sig) (a : Arr) : sProp 𝕄 :=
  match g with
  | ((d, .scVector c _), _) => told d c a
  | _ => iprop(emp)

/-- The barrier semaphores' schedule: one round, of a unit for each tile's arrival at each of the three barriers. -/
def bRd : Rounds.Schedule (GSem nD τ sig) Arr 𝕄 where
  duties g r := if isBar g ∧ r = 0 then Finset.univ else ∅
  amount _ _ _ := 1
  payload g _ a := bPay g a
  amount_pos _ _ _ _ := Nat.one_pos

/-- What an arrival carries may stand in an invariant. -/
instance bRd_payload_storable (g : GSem nD τ sig) (r : ℕ) (a : Arr) : BI.Storable (upEmb : UEmb _ 𝕄) ((bRd (F := F)).payload g r a) := by
  show BI.Storable upEmb (bPay g a)
  unfold bPay
  rcases g with ⟨⟨d, _ | c | ⟨c, i⟩⟩, sm⟩ <;> dsimp only <;> infer_instance

/-- The one round's duties on a barrier semaphore: every tile's arrival at every barrier. -/
theorem bRd_duties₀ (d : Dev nD) (c : Fin τ.nSC) (j : Fin τ.nSub) : (bRd (F := F)).duties (bcell d c j) 0 = Finset.univ := by
  simp [bRd, isBar]
/-- There is no round after it. -/
theorem bRd_duties_succ (g : GSem nD τ sig) (r : ℕ) (hr : 1 ≤ r) : (bRd (F := F)).duties g r = ∅ :=
  if_neg fun h => absurd h.2 (Nat.ne_of_gt hr)
/-- The round has 48 units. -/
theorem bRd_expect (d : Dev nD) (c : Fin τ.nSC) (j : Fin τ.nSub) : (bRd (F := F)).expect (bcell d c j) 0 = 48 := by
  unfold Rounds.Schedule.expect; rw [bRd_duties₀]
  show ∑ _x ∈ (Finset.univ : Finset Arr), 1 = 48
  rw [Finset.sum_const, Finset.card_univ]; rfl

/-! ## What the arrivals a tile has seen tell it -/

/-- Among `16 (k + 1)` arrivals or more: one at a later barrier than `k`, or every tile's at barrier `k`. -/
theorem arrivals (k : Fin 3) (s : Finset Arr) (hs : 16 * (k.val + 1) ≤ s.card) : (∃ a ∈ s, k < a.1) ∨ ∀ A, (k, A) ∈ s := by
  by_cases h : ∃ a ∈ s, k < a.1
  · exact .inl h
  refine .inr fun A => ?_
  have hsub : s ⊆ (Finset.Iic k) ×ˢ (Finset.univ : Finset (Fin τ.nSub)) := fun a ha =>
    Finset.mem_product.mpr ⟨Finset.mem_Iic.mpr (not_lt.mp fun hk => h ⟨a, ha, hk⟩), Finset.mem_univ _⟩
  have hcard : ((Finset.Iic k) ×ˢ (Finset.univ : Finset (Fin τ.nSub))).card = 16 * (k.val + 1) := by
    rw [Finset.card_product, Fin.card_Iic, Finset.card_univ, Fintype.card_fin]; exact Nat.mul_comm _ _
  rw [Finset.eq_of_subset_of_card_le hsub (by rw [hcard]; exact hs)]
  exact Finset.mem_product.mpr ⟨Finset.mem_Iic.mpr le_rfl, Finset.mem_univ _⟩

/-- The tile that deposits hand-over `j` of barrier `k`. -/
def giver (k : Fin 3) (j : Fin τ.nSub) : Fin τ.nSub := if k = 1 then j else 0

/-- It does deposit it. -/
theorem deposits_giver (k : Fin 3) (j : Fin τ.nSub) : deposits k (giver k j) j = true := by
  unfold deposits giver
  split <;> simp

/-- A tile that has seen `16 (k + 1)` arrivals knows that every deposit for barrier `k` is made. -/
theorem full_of_card (d : Dev nD) (c : Fin τ.nSC) (k : Fin 3) (s : Finset Arr) (hs : 16 * (k.val + 1) ≤ s.card) :
    (bigSep s fun a => told d c a) ⊢ (full d c k : sProp 𝕄) := by
  refine bigSep_intro_persistent fun j _ => ?_
  rcases arrivals k s hs with ⟨a, ha, hk⟩ | hall
  · exact ((bigSep_elim (Φ := fun a => (told d c a : sProp 𝕄)) ha).trans (told_full d c a hk)).trans
      (bigSep_elim (Φ := fun j => (given ((d, c), k, j) : sProp 𝕄)) (Finset.mem_univ j))
  · exact ((bigSep_elim (Φ := fun a => (told d c a : sProp 𝕄)) (hall (giver k j))).trans (told_dep d c _)).trans <|
      bigSep_elim (Φ := fun j => (given ((d, c), k, j) : sProp 𝕄)) (Finset.mem_filter.mpr ⟨Finset.mem_univ j, deposits_giver k j⟩)

end Cert.Proof.Pool

end
-- ==== Proof.Barrier.lean ====
/-
  The rule of each of the kernel's three subcore barriers: sixteen arrivals, one on every tile's barrier semaphore, then
  the wait for sixteen units on the tile's own. After it the tile knows that every deposit for this barrier is made; after
  the last, its barrier semaphore is closed and at zero.
-/
module

public import proofs.«01_k».proof.Proof.Handover

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] blocks

variable {F : FTy → Type} [FloatOps F] [Named F]

local notation "𝕄" => MT nD τ sig (HIx 3) (Elt F) ℕ UU ℕ

/-- Every barrier semaphore of the SparseCore under its invariant. -/
def bInvs (κ : GSem nD τ sig → ℕ) (d : Dev nD) (c : Fin τ.nSC) : sProp 𝕄 :=
  bigSep Finset.univ fun j : Fin τ.nSub => cellInv EB (bRd (F := F)) (κ (bcell d c j)) (bcell d c j)
/-- The one round of each is open. -/
def bOpen (d : Dev nD) (c : Fin τ.nSC) : sProp 𝕄 := bigSep Finset.univ fun j : Fin τ.nSub => reached EB (bcell d c j) 0
/-- Tile `i`'s tokens for its arrivals at barrier `k`. -/
def bToksOf (d : Dev nD) (c : Fin τ.nSC) (i : Fin τ.nSub) (k : Fin 3) : sProp 𝕄 :=
  bigSep Finset.univ fun j : Fin τ.nSub => dutyTok EB (bcell d c j) 0 (k, i)
/-- Where tile `i` stands after `n` barriers: it has consumed `16 n` units and knows what the arrivals it has seen told. -/
def seen (d : Dev nD) (c : Fin τ.nSC) (i : Fin τ.nSub) (n : ℕ) : sProp 𝕄 :=
  iprop(∃ s : Finset Arr, atPos EB (bcell d c i) 0 s (16 * n) ∗ bigSep s fun a => told d c a)

/-- The invariants are not used up, -/
instance bInvs_persistent (κ : GSem nD τ sig → ℕ) (d : Dev nD) (c : Fin τ.nSC) : BI.Persistent (bInvs (F := F) κ d c) := by
  unfold bInvs cellInv; infer_instance
/-- nor is the knowledge that the rounds are open. -/
instance bOpen_persistent (d : Dev nD) (c : Fin τ.nSC) : BI.Persistent (bOpen d c : sProp 𝕄) := by unfold bOpen; infer_instance

/-- The invariant of one tile's barrier semaphore. -/
theorem bInvs_at (κ : GSem nD τ sig → ℕ) (d : Dev nD) (c : Fin τ.nSC) (j : Fin τ.nSub) : bInvs (F := F) κ d c ⊢ cellInv EB (bRd (F := F)) (κ (bcell d c j)) (bcell d c j) :=
  bigSep_elim (Φ := fun j : Fin τ.nSub => cellInv EB (bRd (F := F)) (κ (bcell d c j)) (bcell d c j)) (Finset.mem_univ j)
/-- The one round of one tile's barrier semaphore is open. -/
theorem bOpen_at (d : Dev nD) (c : Fin τ.nSC) (j : Fin τ.nSub) : bOpen d c ⊢ (reached EB (bcell d c j) 0 : sProp 𝕄) :=
  bigSep_elim (Φ := fun j : Fin τ.nSub => (reached EB (bcell d c j) 0 : sProp 𝕄)) (Finset.mem_univ j)

/-- What some arrivals told and what the others did is what all of them told. -/
theorem told_merge (d : Dev nD) (c : Fin τ.nSC) {s s' : Finset Arr} (h : s ⊆ s') :
    iprop((bigSep s fun a => told d c a) ∗ bigSep (s' \ s) fun a => told d c a) ⊢ (bigSep s' fun a => told d c a : sProp 𝕄) :=
  Entails.of_eq (bigSep_sdiff_split (Φ := fun a => (told d c a : sProp 𝕄)) h).symm

variable {α : Type}

/-- The sixteen arrivals: from what is owed for barrier `k`, one unit on each tile's semaphore, told what `told` says. -/
theorem wp_arrive (κ : GSem nD τ sig → ℕ) (d : Dev nD) (c : Fin τ.nSC) (i : Fin τ.nSub) (k : Fin 3)
    (O : CellTallies nD τ sig (HIx 3)) (W : Waits sig (HIx 3)) {p : Prog (TpuEff nD τ sig (Elt F) Λ₀ (.scVector c i)) α} {Ψ : α → sProp 𝕄} :
    iprop(bInvs (F := F) κ d c ∗ bOpen d c ∗ owes (V d c i) (O + oxB d c k) W ∗ bToksOf d c i k ∗ told d c (k, i)
        ∗ (owes (V d c i) O W -∗ wp frame (wpE defs₀ 𝒱₀ (V d c i) none) Set.univ p Ψ))
      ⊢ wp frame (wpE defs₀ 𝒱₀ (V d c i) none) Set.univ
          ((List.finRange τ.nSub).foldr (fun j r => .op (TpuEff.semSignal (d, .scVector c j) sc_bar0 1) fun _ => r) p) Ψ := by
  have hsig : ∀ l : List (Fin τ.nSub), l.Nodup →
      iprop(bInvs (F := F) κ d c ∗ bOpen d c ∗ told d c (k, i)
          ∗ owes (V d c i) (O + ∑ j ∈ l.toFinset, tallyAt (bcell d c j) (some k) 1) W
          ∗ (bigSep l.toFinset fun j => dutyTok EB (bcell d c j) 0 (k, i))
          ∗ (owes (V d c i) O W -∗ wp frame (wpE defs₀ 𝒱₀ (V d c i) none) Set.univ p Ψ))
        ⊢ wp frame (wpE defs₀ 𝒱₀ (V d c i) none) Set.univ
            (l.foldr (fun j r => .op (TpuEff.semSignal (d, .scVector c j) sc_bar0 1) fun _ => r) p) Ψ := by
    intro l hl
    induction l with
    | nil =>
      rw [List.toFinset_nil, List.foldr_nil, Finset.sum_empty, add_zero]
      iintro ⟨-, -, -, HO, -, Hk⟩; iapply Hk; iexact HO
    | cons j l ih =>
      rw [List.toFinset_cons, List.foldr_cons]
      have hj : j ∉ l.toFinset := fun h => (List.nodup_cons.mp hl).1 (List.mem_toFinset.mp h)
      rw [SparseCore.bigSep_insert' hj, Finset.sum_insert hj]
      iintro ⟨#Hinv, #Hop, #Hd, HO, ⟨Htok, Htoks⟩, Hk⟩
      iapply (Rounds.wp_signal 𝒱₀ EB (bRd (F := F)) (V d c i) none (dst := V d c j) (sem := sc_bar0) (r := 0) (d := (k, i)) (k' := 1)
          (κ := κ (bcell d c j)) (by rw [bRd_duties₀]; exact Finset.mem_univ _) rfl (some k)
          (O₀ := O + (tallyAt (bcell d c j) (some k) 1 + ∑ j ∈ l.toFinset, tallyAt (bcell d c j) (some k) 1))
          (O := O + ∑ j ∈ l.toFinset, tallyAt (bcell d c j) (some k) 1)
          (by rw [add_comm (tallyAt _ _ _) _, ← add_assoc]) (W := W)) $$ [HO Htok]
      · isplitr; · iapply (bInvs_at κ d c j) $$ Hinv
        isplitl [HO]; · iexact HO
        isplitl [Htok]; · iexact Htok
        isplitr; · iapply (SparseCore.ent (show told d c (k, i) ⊢ (bRd (F := F)).payload (bcell d c j) 0 (k, i) from Entails.refl _)) $$ Hd
        iapply (bOpen_at d c j) $$ Hop
      iintro HO
      iapply (ih (List.nodup_cons.mp hl).2)
      isplitr; · iexact Hinv
      isplitr; · iexact Hop
      isplitr; · iexact Hd
      isplitl [HO]; · iexact HO
      isplitl [Htoks] <;> iassumption
  have := hsig (List.finRange τ.nSub) (List.nodup_finRange _)
  rw [List.toFinset_finRange] at this
  iintro ⟨#Hinv, #Hop, HO, Htoks, #Hd, Hk⟩
  iapply this
  isplitr; · iexact Hinv
  isplitr; · iexact Hop
  isplitr; · iexact Hd
  isplitl [HO]; · iexact HO
  isplitl [Htoks]; · unfold bToksOf; iexact Htoks
  iexact Hk

/-- The barrier as its arrivals and its wait, the tiles counted as the SparseCore counts them. -/
theorem barrier_bind (c : Fin τ.nSC) (i : Fin τ.nSub) (k : PUnit → Prog (TpuEff nD τ sig (Elt F) Λ₀ (.scVector c i)) α) :
    SparseCore.subcoreBarrier sc_bar0 (grid1.bound 1) hsub1 >>= k
      = .op .deviceId fun d => (List.finRange τ.nSub).foldr
          (fun j r => .op (TpuEff.semSignal (d, .scVector c j) sc_bar0 1) fun _ => r) (.op (TpuEff.semWait sc_bar0 16) k) :=
  SparseCore.subcoreBarrier_bind sc_bar0 (grid1.bound 1) hsub1 k

/-- A barrier but the last. -/
theorem wp_barrier (κ : GSem nD τ sig → ℕ) (d : Dev nD) (c : Fin τ.nSC) (i : Fin τ.nSub) (k : Fin 3)
    (O : CellTallies nD τ sig (HIx 3)) (W : Waits sig (HIx 3)) {p : PUnit → Prog (TpuEff nD τ sig (Elt F) Λ₀ (.scVector c i)) α} {Ψ : α → sProp 𝕄} :
    iprop(bInvs (F := F) κ d c ∗ bOpen d c ∗ owes (V d c i) (O + oxB d c k) W ∗ bToksOf d c i k ∗ told d c (k, i)
        ∗ cred (tallyAt (bcell d c i) (some k) 16) ∗ seen d c i k.val ∗ MayWait (V d c i) (.reg sc_bar0) (some k) O)
      ⊢ iprop((iprop(owes (V d c i) O (W ∪ {(SemLoc.reg sc_bar0, some k)}) ∗ seen d c i (k.val + 1) ∗ full d c k)
          -∗ wp frame (wpE defs₀ 𝒱₀ (V d c i) none) Set.univ (p ⟨⟩) Ψ)
        -∗ wp frame (wpE defs₀ 𝒱₀ (V d c i) none) Set.univ (SparseCore.subcoreBarrier sc_bar0 (grid1.bound 1) hsub1 >>= p) Ψ) := by
  rw [barrier_bind, show (wp frame (wpE defs₀ 𝒱₀ (V d c i) none) Set.univ (.op .deviceId _) Ψ : sProp 𝕄) = _ from wp_deviceId 𝒱₀ (V d c i) none Set.univ]
  unfold seen
  iintro ⟨#Hinv, #Hop, HO, Htoks, #Hd, Hcred, ⟨%s, Hat, #Hs⟩, Hmw⟩ Hk
  iapply (wp_arrive κ d c i k O W)
  isplitr; · iexact Hinv
  isplitr; · iexact Hop
  isplitl [HO]; · iexact HO
  isplitl [Htoks]; · iexact Htoks
  isplitr; · iexact Hd
  iintro HO
  iapply (Rounds.wp_wait 𝒱₀ EB (bRd (F := F)) (V d c i) none (sm := .reg sc_bar0) (k' := 16) (κ := κ (bcell d c i))
      (wpE_semWait_eq 𝒱₀ (V d c i) none Set.univ) (Set.mem_univ _) (cr := Finsupp.single (some k) 16) (O := O) (W := W) {(SemLoc.reg sc_bar0, some k)}
      (R := 0) (m := 16 * k.val) (T := s) (by rw [Util.total_single]) (image_single_subset _ _ _)) $$ [Hcred HO Hmw Hat]
  · isplitr; · iapply (bInvs_at κ d c i) $$ Hinv
    isplitl [Hcred]; · iexact Hcred
    isplitl [HO]; · iexact HO
    isplitl [Hmw] <;> iassumption
  iintro %s' ⟨%hs', HO, Hat, Hpay⟩
  ihave #Hnew := (SparseCore.ent (show (bigSep (s' \ s) fun a => (bRd (F := F)).payload (bcell d c i) 0 a) ⊢ bigSep (s' \ s) fun a => told d c a from Entails.refl _)) $$ Hpay
  obtain ⟨hss, -, hcard⟩ := hs'
  have hc : 16 * (k.val + 1) ≤ s'.card := by
    have hu : (Finset.univ : Finset Arr).card = 48 := rfl
    rw [bRd_expect, bRd_duties₀, Finset.card_univ_diff, ← Finset.card_univ, hu] at hcard
    have := Finset.card_le_univ s'
    rw [← Finset.card_univ, hu] at this
    omega
  ihave #Hall : (bigSep s' fun a => told d c a) $$ []
  · iapply (told_merge d c hss)
    isplitr; · iexact Hs
    iexact Hnew
  iapply Hk
  isplitl [HO]; · iexact HO
  isplitl [Hat]
  · iexists s'
    isplitl [Hat]; · iexact Hat
    iexact Hall
  iapply (SparseCore.ent (full_of_card d c k s' hc)) $$ Hall

/-- The last barrier, after which the tile's barrier semaphore is at zero for good. -/
theorem wp_barrier_last (κ : GSem nD τ sig → ℕ) (d : Dev nD) (c : Fin τ.nSC) (i : Fin τ.nSub)
    (O : CellTallies nD τ sig (HIx 3)) (W : Waits sig (HIx 3)) {p : PUnit → Prog (TpuEff nD τ sig (Elt F) Λ₀ (.scVector c i)) α} {Ψ : α → sProp 𝕄} :
    iprop(bInvs (F := F) κ d c ∗ bOpen d c ∗ owes (V d c i) (O + oxB d c 2) W ∗ bToksOf d c i 2 ∗ told d c (2, i)
        ∗ cred (tallyAt (bcell d c i) (some 2) 16) ∗ seen d c i 2 ∗ MayWait (V d c i) (.reg sc_bar0) (some 2) O)
      ⊢ iprop((iprop(owes (V d c i) O (W ∪ {(SemLoc.reg sc_bar0, some 2)}) ∗ semVal (bcell d c i) 0 ∗ full d c 2)
          -∗ wp frame (wpE defs₀ 𝒱₀ (V d c i) none) Set.univ (p ⟨⟩) Ψ)
        -∗ wp frame (wpE defs₀ 𝒱₀ (V d c i) none) Set.univ (SparseCore.subcoreBarrier sc_bar0 (grid1.bound 1) hsub1 >>= p) Ψ) := by
  rw [barrier_bind, show (wp frame (wpE defs₀ 𝒱₀ (V d c i) none) Set.univ (.op .deviceId _) Ψ : sProp 𝕄) = _ from wp_deviceId 𝒱₀ (V d c i) none Set.univ]
  unfold seen
  iintro ⟨#Hinv, #Hop, HO, Htoks, #Hd, Hcred, ⟨%s, Hat, #Hs⟩, Hmw⟩ Hk
  iapply (wp_arrive κ d c i 2 O W)
  isplitr; · iexact Hinv
  isplitr; · iexact Hop
  isplitl [HO]; · iexact HO
  isplitl [Htoks]; · iexact Htoks
  isplitr; · iexact Hd
  iintro HO
  iapply (Rounds.wp_wait_rest 𝒱₀ EB (bRd (F := F)) (V d c i) none (sm := .reg sc_bar0) (k' := 16) (κ := κ (bcell d c i))
      (wpE_semWait_eq 𝒱₀ (V d c i) none Set.univ) (Set.mem_univ _) (cr := Finsupp.single (some 2) 16) (O := O) (W := W) {(SemLoc.reg sc_bar0, some 2)}
      (R := 0) (m := 16 * 2) (T := s) (by rw [bRd_expect]) (by rw [Util.total_single]) (image_single_subset _ _ _)) $$ [Hcred HO Hmw Hat]
  · isplitr; · iapply (bInvs_at κ d c i) $$ Hinv
    isplitl [Hcred]; · iexact Hcred
    isplitl [HO]; · iexact HO
    isplitl [Hmw] <;> iassumption
  rw [bRd_duties₀]
  iintro ⟨HO, Hat, -, Hpay⟩
  ihave #Hnew := (SparseCore.ent (show (bigSep (Finset.univ \ s) fun a => (bRd (F := F)).payload (bcell d c i) 0 a) ⊢ bigSep (Finset.univ \ s) fun a => told d c a from Entails.refl _)) $$ Hpay
  ihave #Hall : (bigSep (Finset.univ : Finset Arr) fun a => told d c a) $$ []
  · iapply (told_merge d c (Finset.subset_univ s))
    isplitr; · iexact Hs
    iexact Hnew
  imod (Rounds.cell_close EB (bRd (F := F)) (g := bcell d c i) (κ := κ (bcell d c i)) (Set.mem_univ _) (fun h => h) (R := 0 + 1) (bRd_duties_succ (bcell d c i))) $$ [Hat] with Hz
  · isplitr; · iapply (bInvs_at κ d c i) $$ Hinv
    iexact Hat
  iapply Hk
  isplitl [HO]; · iexact HO
  isplitl [Hz]; · iexact Hz
  iapply (SparseCore.ent (full_of_card d c 2 Finset.univ (by decide))) $$ Hall

end Cert.Proof.Pool

end
-- ==== Proof.Stage.lean ====
/-
  One barrier of the kernel as a tile goes through it: what it deposits before the barrier, the barrier, what it takes
  after it. Before barriers 0 and 2 tile 0 holds the SparseCore's shared table whole, filled with a half of the table of
  projected rows, and deposits every tile's share; after them each tile takes its own. Before barrier 1 each tile deposits
  its own share, after it tile 0 takes them all and has the shared table whole again.
-/
module

public import proofs.«01_k».proof.Proof.Barrier

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] blocks

variable {F : FTy → Type} [FloatOps F] [Named F]

local notation "𝕄" => MT nD τ sig (HIx 3) (Elt F) ℕ UU ℕ

variable (tb : Tab F)

/-! ## Who deposits and who takes -/

/-- The hand-overs tile `A` takes after barrier `k`: its own, at barriers 0 and 2; tile 0 everyone's, at barrier 1. -/
def takes (k : Fin 3) (A j : Fin τ.nSub) : Bool := if k = 1 then decide (A.val = 0) else decide (A = j)

/-- Every place of a hand-over under its invariant. -/
def eInvs : sProp 𝕄 := iprop(∃ κ : Key → ℕ, bigSep Finset.univ fun x : Key => inv (κ x) (place tb x))
/-- Tile `i`'s right to deposit what it deposits for barrier `k`. -/
def mayGive (d : Dev nD) (c : Fin τ.nSC) (i : Fin τ.nSub) (k : Fin 3) : sProp 𝕄 :=
  bigSep (Finset.univ.filter fun j => deposits k i j = true) fun j => atPos EE ((d, c), k, j) 0 ∅ 0
/-- Tile `i`'s right to take what it takes after barrier `k`. -/
def mayTake (d : Dev nD) (c : Fin τ.nSC) (i : Fin τ.nSub) (k : Fin 3) : sProp 𝕄 :=
  bigSep (Finset.univ.filter fun j => takes k i j = true) fun j => dutyTok EE ((d, c), k, j) 0 0
/-- What tile `i` deposits for barrier `k`. -/
def outgo (d : Dev nD) (c : Fin τ.nSC) (i : Fin τ.nSub) (k : Fin 3) : sProp 𝕄 :=
  bigSep (Finset.univ.filter fun j => deposits k i j = true) fun j => handed tb ((d, c), k, j)
/-- What tile `i` takes after barrier `k`. -/
def income (d : Dev nD) (c : Fin τ.nSC) (i : Fin τ.nSub) (k : Fin 3) : sProp 𝕄 :=
  bigSep (Finset.univ.filter fun j => takes k i j = true) fun j => handed tb ((d, c), k, j)

/-- The hand-overs' invariants are not used up. -/
instance eInvs_persistent : BI.Persistent (eInvs tb : sProp 𝕄) := by unfold eInvs; infer_instance

/-- All of a tile's deposits for a barrier, made. -/
theorem give_all (d : Dev nD) (c : Fin τ.nSC) (i : Fin τ.nSub) (k : Fin 3) :
    iprop(eInvs tb ∗ mayGive d c i k ∗ outgo tb d c i k) ⊢ |={Set.univ}=> (dep d c k i : sProp 𝕄) := by
  unfold eInvs mayGive outgo dep
  iintro ⟨⟨%κ, #Hinv⟩, Hat, Hh⟩
  iapply (SparseCore.ent (bigSep_fupd _ (fun j => (given ((d, c), k, j) : sProp 𝕄))))
  iapply (bigSep_with_persistent (S := Finset.univ.filter fun j => deposits k i j = true)
    (R := bigSep Finset.univ fun x : Key => inv (κ x) (place tb x))
    (Φ := fun j => iprop(atPos EE ((d, c), k, j) 0 ∅ 0 ∗ handed tb ((d, c), k, j)))
    (Ψ := fun j => iprop(|={Set.univ}=> (given ((d, c), k, j) : sProp 𝕄))) fun j _ => by
      iintro ⟨H, Hr⟩
      iapply (hand_give tb (κ ((d, c), k, j)) ((d, c), k, j))
      isplitl [H]
      · iapply (SparseCore.ent (bigSep_elim (Φ := fun x : Key => (inv (κ x) (place tb x) : sProp 𝕄)) (Finset.mem_univ ((d, c), k, j)))); iexact H
      · iexact Hr)
  rw [bigSep_sep']
  isplitr; · iexact Hinv
  isplitl [Hat] <;> iassumption

/-- All that a tile takes after a barrier, taken. -/
theorem take_all (d : Dev nD) (c : Fin τ.nSC) (i : Fin τ.nSub) (k : Fin 3) :
    iprop(eInvs tb ∗ mayTake d c i k ∗ full d c k) ⊢ |={Set.univ}=> (income tb d c i k : sProp 𝕄) := by
  unfold eInvs mayTake income
  iintro ⟨⟨%κ, #Hinv⟩, Htok, #Hfull⟩
  iapply (SparseCore.ent (bigSep_fupd _ (fun j => (handed tb ((d, c), k, j) : sProp 𝕄))))
  iapply (bigSep_with_persistent (S := Finset.univ.filter fun j => takes k i j = true)
    (R := iprop((bigSep Finset.univ fun x : Key => inv (κ x) (place tb x)) ∗ full d c k))
    (Φ := fun j => dutyTok EE ((d, c), k, j) 0 0)
    (Ψ := fun j => iprop(|={Set.univ}=> (handed tb ((d, c), k, j) : sProp 𝕄))) fun j _ => by
      unfold full
      iintro ⟨⟨H, Hf⟩, Hr⟩
      iapply (hand_take tb (κ ((d, c), k, j)) ((d, c), k, j))
      isplitl [H]
      · iapply (SparseCore.ent (bigSep_elim (Φ := fun x : Key => (inv (κ x) (place tb x) : sProp 𝕄)) (Finset.mem_univ ((d, c), k, j)))); iexact H
      isplitl [Hf]
      · iapply (SparseCore.ent (bigSep_elim (Φ := fun j => (given ((d, c), k, j) : sProp 𝕄)) (Finset.mem_univ j))); iexact Hf
      · iexact Hr)
  isplitr
  · isplitr <;> iassumption
  iexact Htok

/-! ## The barriers -/

variable {α : Type}

/-- That every deposit for the barriers before `k` is made. -/
abbrev past (d : Dev nD) (c : Fin τ.nSC) (k : Fin 3) : sProp 𝕄 := bigSep (Finset.univ.filter fun k' => k' < k) fun k' => full d c k'

/-- What a tile has for barrier `k`: its tokens for the arrivals, the credit for its wait, its rights to deposit and to
    take. -/
def ticket (d : Dev nD) (c : Fin τ.nSC) (i : Fin τ.nSub) (k : Fin 3) : sProp 𝕄 :=
  iprop(bToksOf d c i k ∗ cred (tallyAt (bcell d c i) (some k) 16) ∗ mayGive d c i k ∗ mayTake d c i k)

/-- What every tile of the SparseCore may know of the certificate's invariants. -/
def known (d : Dev nD) (c : Fin τ.nSC) : sProp 𝕄 :=
  iprop((∃ κ : GSem nD τ sig → ℕ, bInvs (F := F) κ d c) ∗ bOpen d c ∗ eInvs tb)

/-- Nor is what the tiles know. -/
instance known_persistent (d : Dev nD) (c : Fin τ.nSC) : BI.Persistent (known tb d c : sProp 𝕄) := by unfold known; infer_instance

/-- The wait at barrier `k` under what the tile still owes: all of it is above the barrier's units. -/
theorem mayWait_bar (d : Dev nD) (c : Fin τ.nSC) (i : Fin τ.nSub) (k : Fin 3) (O : CellTallies nD τ sig (HIx 3))
    (hO : ∀ g ι, 0 < O g ι → 8 * k.val + 3 < (K (F := F)).lev g ι) :
    levAts (K (F := F)).L (K (F := F)).lev ⊢ (MayWait (V d c i) (.reg sc_bar0) (some k) O : sProp 𝕄) :=
  (K (F := F)).mayOwe_of_bound (thr := V d c i) (8 * k.val + 3) (fun p hp => by
      rw [Finset.mem_singleton] at hp; subst hp
      exact (lev_bcell d c i k).le) hO

/-- Barrier `k`, with the deposits before it and what is taken after it. -/
theorem wp_pass (d : Dev nD) (c : Fin τ.nSC) (i : Fin τ.nSub) (k : Fin 3) (O : CellTallies nD τ sig (HIx 3)) (W : Waits sig (HIx 3))
    (hO : ∀ g ι, 0 < O g ι → 8 * k.val + 3 < (K (F := F)).lev g ι)
    {p : PUnit → Prog (TpuEff nD τ sig (Elt F) Λ₀ (.scVector c i)) α} {Ψ : α → sProp 𝕄} :
    iprop(levAts (K (F := F)).L (K (F := F)).lev ∗ known tb d c ∗ past d c k ∗ owes (V d c i) (O + oxB d c k) W ∗ ticket d c i k
        ∗ seen d c i k.val ∗ outgo tb d c i k)
      ⊢ iprop((iprop(owes (V d c i) O (W ∪ {(SemLoc.reg sc_bar0, some k)}) ∗ seen d c i (k.val + 1) ∗ full d c k ∗ income tb d c i k)
          -∗ wp frame (wpE defs₀ 𝒱₀ (V d c i) none) Set.univ (p ⟨⟩) Ψ)
        -∗ wp frame (wpE defs₀ 𝒱₀ (V d c i) none) Set.univ (SparseCore.subcoreBarrier sc_bar0 (grid1.bound 1) hsub1 >>= p) Ψ) := by
  unfold known ticket
  iintro ⟨#Hlv, ⟨⟨%κ, #Hb⟩, #Hop, #He⟩, #Hpast, HO, ⟨Htoks, Hcred, Hg, Ht⟩, Hseen, Hout⟩ Hk
  imod (give_all tb d c i k) $$ [Hg Hout] with #Hdep
  · isplitr; · iexact He
    isplitl [Hg] <;> iassumption
  iapply (wp_barrier κ d c i k O W) $$ [HO Htoks Hcred Hseen]
  · isplitr; · iexact Hb
    isplitr; · iexact Hop
    isplitl [HO]; · iexact HO
    isplitl [Htoks]; · iexact Htoks
    isplitr
    · unfold told; isplitr; · iexact Hdep
      iexact Hpast
    isplitl [Hcred]; · iexact Hcred
    isplitl [Hseen]; · iexact Hseen
    iapply (mayWait_bar d c i k O hO); iexact Hlv
  iintro ⟨HO, Hseen, #Hfull⟩
  imod (take_all tb d c i k) $$ [Ht] with Hin
  · isplitr; · iexact He
    isplitl [Ht] <;> iassumption
  iapply Hk
  isplitl [HO]; · iexact HO
  isplitl [Hseen]; · iexact Hseen
  isplitr; · iexact Hfull
  iexact Hin

/-- The last barrier: the tile closes its barrier semaphore and keeps it, at zero. -/
theorem wp_pass_last (d : Dev nD) (c : Fin τ.nSC) (i : Fin τ.nSub) (O : CellTallies nD τ sig (HIx 3)) (W : Waits sig (HIx 3))
    (hO : ∀ g ι, 0 < O g ι → 8 * (2 : Fin 3).val + 3 < (K (F := F)).lev g ι)
    {p : PUnit → Prog (TpuEff nD τ sig (Elt F) Λ₀ (.scVector c i)) α} {Ψ : α → sProp 𝕄} :
    iprop(levAts (K (F := F)).L (K (F := F)).lev ∗ known tb d c ∗ past d c 2 ∗ owes (V d c i) (O + oxB d c 2) W ∗ ticket d c i 2
        ∗ seen d c i 2 ∗ outgo tb d c i 2)
      ⊢ iprop((iprop(owes (V d c i) O (W ∪ {(SemLoc.reg sc_bar0, some 2)}) ∗ semVal (bcell d c i) 0 ∗ income tb d c i 2)
          -∗ wp frame (wpE defs₀ 𝒱₀ (V d c i) none) Set.univ (p ⟨⟩) Ψ)
        -∗ wp frame (wpE defs₀ 𝒱₀ (V d c i) none) Set.univ (SparseCore.subcoreBarrier sc_bar0 (grid1.bound 1) hsub1 >>= p) Ψ) := by
  unfold known ticket
  iintro ⟨#Hlv, ⟨⟨%κ, #Hb⟩, #Hop, #He⟩, #Hpast, HO, ⟨Htoks, Hcred, Hg, Ht⟩, Hseen, Hout⟩ Hk
  imod (give_all tb d c i 2) $$ [Hg Hout] with #Hdep
  · isplitr; · iexact He
    isplitl [Hg] <;> iassumption
  iapply (wp_barrier_last κ d c i O W) $$ [HO Htoks Hcred Hseen]
  · isplitr; · iexact Hb
    isplitr; · iexact Hop
    isplitl [HO]; · iexact HO
    isplitl [Htoks]; · iexact Htoks
    isplitr
    · unfold told; isplitr; · iexact Hdep
      iexact Hpast
    isplitl [Hcred]; · iexact Hcred
    isplitl [Hseen]; · iexact Hseen
    iapply (mayWait_bar d c i 2 O hO); iexact Hlv
  iintro ⟨HO, Hseen, #Hfull⟩
  imod (take_all tb d c i 2) $$ [Ht] with Hin
  · isplitr; · iexact He
    isplitl [Ht] <;> iassumption
  iapply Hk
  isplitl [HO]; · iexact HO
  isplitl [Hseen]; · iexact Hseen
  iexact Hin

/-! ## The shared table dealt and gathered -/

/-- Something only tile 0 has. -/
def lead (i : Fin τ.nSub) (R : sProp 𝕄) : sProp 𝕄 := if i.val = 0 then R else iprop(emp)

/-- Tile 0 has it, -/
theorem lead_zero {i : Fin τ.nSub} (h : i.val = 0) (R : sProp 𝕄) : lead i R = R := if_pos h
/-- another tile has nothing. -/
theorem lead_pos {i : Fin τ.nSub} (h : ¬ i.val = 0) (R : sProp 𝕄) : lead i R = iprop(emp) := if_neg h

/-- A tile's share, dealt among all the tiles, is its share of the shared table. -/
theorem dealOf_univ (j : Fin τ.nSub) : Transfers.dealOf fullShare (Finset.univ : Finset (Fin τ.nSub)) j = shareOf j := by
  unfold Transfers.dealOf shareOf
  rw [Finset.card_univ, Fintype.card_fin, Finset.filter_gt_eq_Iio, Fin.card_Iio]

/-- The whole shared table is everyone's shares of it. -/
theorem sh_deal (d : Dev nD) (c : Fin τ.nSC) (f : Buf (Elt F) (shLoc d c)) :
    (shLoc d c ↦{fullShare} f : sProp 𝕄) = bigSep Finset.univ fun j : Fin τ.nSub => shLoc d c ↦{shareOf j} f :=
  (Transfers.pointsTo_deal (Finset.univ : Finset (Fin τ.nSub)) ⟨0, Finset.mem_univ _⟩ fullShare).trans
    (bigSep_congr fun j _ => by rw [dealOf_univ])

/-- Shares held beside share 0 hold what it holds. -/
theorem sh_agree (d : Dev nD) (c : Fin τ.nSC) (g : Buf (Elt F) (shLoc d c)) (fs : Fin τ.nSub → Buf (Elt F) (shLoc d c)) (s : Finset (Fin τ.nSub)) :
    iprop((shLoc d c ↦{shareOf 0} g) ∗ bigSep s fun j => shLoc d c ↦{shareOf j} (fs j))
      ⊢ (iprop((shLoc d c ↦{shareOf 0} g) ∗ bigSep s fun j => shLoc d c ↦{shareOf j} g) : sProp 𝕄) := by
  induction s using Finset.induction_on with
  | empty => rw [bigSep_empty, bigSep_empty]
  | insert j s hj ih =>
    rw [SparseCore.bigSep_insert' hj, SparseCore.bigSep_insert' hj]
    have hag : iprop((shLoc d c ↦{shareOf 0} g) ∗ shLoc d c ↦{shareOf j} (fs j))
        ⊢ (iprop((shLoc d c ↦{shareOf 0} g) ∗ shLoc d c ↦{shareOf j} g) : sProp 𝕄) :=
      pure_elim _ pointsTo_agree fun h => by
        rw [show fs j = g from funext fun i => ((h i (Finset.mem_inter.mpr ⟨Finset.mem_univ i, Finset.mem_univ i⟩)).1).symm]
    iintro ⟨H0, Hj, Hs⟩
    ihave H := hag $$ [H0 Hj]
    · isplitl [H0] <;> iassumption
    icases H with ⟨H0, Hj⟩
    ihave H := ih $$ [H0 Hs]
    · isplitl [H0] <;> iassumption
    icases H with ⟨H0, Hs⟩
    isplitl [H0]; · iexact H0
    isplitl [Hj] <;> iassumption

/-- Shares of the shared table, from everyone, are it whole. -/
theorem sh_gather (d : Dev nD) (c : Fin τ.nSC) (k : Fin 3) :
    (bigSep Finset.univ fun j : Fin τ.nSub => handed tb ((d, c), k, j)) ⊢ (iprop(∃ f, shLoc d c ↦{fullShare} f) : sProp 𝕄) := by
  have h1 : (bigSep Finset.univ fun j : Fin τ.nSub => handed tb ((d, c), k, j))
      ⊢ (bigSep Finset.univ fun j : Fin τ.nSub => iprop(∃ f : Buf (Elt F) (shLoc d c), shLoc d c ↦{shareOf j} f) : sProp 𝕄) :=
    SparseCore.ent (bigSep_mono fun j _ => show handed tb ((d, c), k, j) ⊢ (iprop(∃ f : Buf (Elt F) (shLoc d c), shLoc d c ↦{shareOf j} f) : sProp 𝕄) from by
      unfold handed
      iintro ⟨%f, -, H⟩
      iexists f; iexact H)
  have h2 : (bigSep Finset.univ fun j : Fin τ.nSub => iprop(∃ f : Buf (Elt F) (shLoc d c), shLoc d c ↦{shareOf j} f))
      ⊢ (iprop(∃ fs : Fin τ.nSub → Buf (Elt F) (shLoc d c), bigSep Finset.univ fun j : Fin τ.nSub => shLoc d c ↦{shareOf j} (fs j)) : sProp 𝕄) :=
    SparseCore.ent (bigSep_exists_pi Finset.univ (fun j (f : Buf (Elt F) (shLoc d c)) => (shLoc d c ↦{shareOf j} f : sProp 𝕄)))
  have h3 : ∀ fs : Fin τ.nSub → Buf (Elt F) (shLoc d c), (bigSep Finset.univ fun j : Fin τ.nSub => shLoc d c ↦{shareOf j} (fs j))
      ⊢ (shLoc d c ↦{fullShare} (fs 0) : sProp 𝕄) := fun fs => by
    rw [sh_deal, SparseCore.bigSep_erase' (Finset.mem_univ (0 : Fin τ.nSub)), SparseCore.bigSep_erase' (Φ := fun j : Fin τ.nSub => (shLoc d c ↦{shareOf j} fs 0 : sProp 𝕄)) (Finset.mem_univ (0 : Fin τ.nSub))]
    exact sh_agree d c (fs 0) fs _
  iintro H
  ihave H := h1 $$ H
  ihave H := h2 $$ H
  icases H with ⟨%fs, H⟩
  iexists fs 0
  iapply (h3 fs); iexact H

/-- Before barriers 0 and 2 tile 0's shared table, filled, is what it deposits; the others deposit nothing. -/
theorem outgo_of_lead (d : Dev nD) (c : Fin τ.nSC) (i : Fin τ.nSub) (k : Fin 3) (hk : k ≠ 1) :
    lead i (iprop(∃ f : Buf (Elt F) (shLoc d c), ⌜Holds tb d k f⌝ ∗ shLoc d c ↦{fullShare} f)) ⊢ (outgo tb d c i k : sProp 𝕄) := by
  unfold outgo
  by_cases h : i.val = 0
  · rw [lead_zero h, show (Finset.univ.filter fun j => deposits k i j = true) = (Finset.univ : Finset (Fin τ.nSub)) from
      Finset.filter_true_of_mem fun j _ => by simp [deposits, hk, h]]
    iintro ⟨%f, %hf, H⟩
    ihave H := (Entails.of_eq (sh_deal d c f)) $$ H
    iapply (SparseCore.ent (bigSep_mono (Φ := fun j : Fin τ.nSub => (shLoc d c ↦{shareOf j} f : sProp 𝕄)) (Ψ := fun j => handed tb ((d, c), k, j))
      fun j _ => show (shLoc d c ↦{shareOf j} f : sProp 𝕄) ⊢ handed tb ((d, c), k, j) from by
        unfold handed
        iintro H
        iexists f
        isplitr; · ipureintro; exact hf
        iexact H))
    iexact H
  · rw [lead_pos h, show (Finset.univ.filter fun j => deposits k i j = true) = (∅ : Finset (Fin τ.nSub)) from
      Finset.filter_false_of_mem fun j _ => by simp [deposits, hk, h], bigSep_empty]
    exact Entails.refl _

/-- Before barrier 1 a tile's own share is what it deposits. -/
theorem outgo_own (d : Dev nD) (c : Fin τ.nSC) (i : Fin τ.nSub) (f : Buf (Elt F) (shLoc d c)) :
    (shLoc d c ↦{shareOf i} f : sProp 𝕄) ⊢ outgo tb d c i 1 := by
  unfold outgo
  rw [show (Finset.univ.filter fun j => deposits 1 i j = true) = {i} from by ext j; simp [deposits, eq_comm], bigSep_singleton]
  unfold handed
  iintro H
  iexists f
  isplitr; · ipureintro; trivial
  iexact H

/-- After barriers 0 and 2 a tile has its own share of the shared table. -/
theorem income_own (d : Dev nD) (c : Fin τ.nSC) (i : Fin τ.nSub) (k : Fin 3) (hk : k ≠ 1) :
    income tb d c i k ⊢ (iprop(∃ f : Buf (Elt F) (shLoc d c), ⌜Holds tb d k f⌝ ∗ shLoc d c ↦{shareOf i} f) : sProp 𝕄) := by
  unfold income
  rw [show (Finset.univ.filter fun j => takes k i j = true) = {i} from by ext j; simp [takes, hk, eq_comm], bigSep_singleton]
  unfold handed
  exact Entails.refl _

/-- After barrier 1 tile 0 has the shared table whole again. -/
theorem income_lead (d : Dev nD) (c : Fin τ.nSC) (i : Fin τ.nSub) :
    income tb d c i 1 ⊢ (lead i (iprop(∃ f : Buf (Elt F) (shLoc d c), shLoc d c ↦{fullShare} f)) : sProp 𝕄) := by
  unfold income
  by_cases h : i.val = 0
  · rw [lead_zero h, show (Finset.univ.filter fun j => takes 1 i j = true) = (Finset.univ : Finset (Fin τ.nSub)) from
      Finset.filter_true_of_mem fun j _ => by simp [takes, h]]
    exact sh_gather tb d c 1
  · rw [lead_pos h, show (Finset.univ.filter fun j => takes 1 i j = true) = (∅ : Finset (Fin τ.nSub)) from
      Finset.filter_false_of_mem fun j _ => by simp [takes, h], bigSep_empty]
    exact Entails.refl _

end Cert.Proof.Pool

end
-- ==== Proof.Fill.lean ====
/-
  Tile 0's copy of a half of the table `p` into the shared table, and what the shared table then holds.
-/
module

public import proofs.«01_k».proof.Proof.Stage
public import Idealize.ShloMosaic.Lib.Pointwise

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F] [Named F]

local notation "𝕄" => MT nD τ sig (HIx 3) (Elt F) ℕ UU ℕ

variable (tb : Tab F)

/-! ## A tile's buffers as its body addresses them -/

/-- The row numbers. -/
abbrev xV : Memref sig .scVector .hbm S200x4096 .i32 := Memref.whole main_arg0_scv
/-- The table `p`. -/
abbrev pV : Memref sig .scVector .hbm S1x1x100096 .f32 := Memref.whole main_v1_scv
/-- The result. -/
abbrev oV : Memref sig .scVector .hbm S4096 .f32 := Memref.whole main_v2_scv
/-- The tile's own row numbers. -/
abbrev iV : Memref sig .scVector .vmem S200x128 .i32 := Memref.whole cc1_scratch0
/-- The tile's own table. -/
abbrev tV : Memref sig .scVector .vmem S100096 .f32 := Memref.whole cc1_scratch1
/-- The SparseCore's shared half table. -/
abbrev shV : Memref sig .scVector .shared S50048 .f32 := Memref.whole cc1_scratch2
/-- The tile's own sums, before they are written out. -/
abbrev rV : Memref sig .scVector .vmem S128 .f32 := Memref.whole cc1_scratch3

/-- A half of the table `p`. -/
abbrev pHalf (off : Fin 3 → ℕ) (h : ∀ a, off a + S1x1x50048.size a ≤ S1x1x100096.size a) : Memref sig .scVector .hbm S50048 .f32 :=
  (pV.slice (Rect.unit (s := S1x1x100096) off S1x1x50048.size h) (fun _ => rfl)).squeeze S50048 squeezes_S1x1x50048_S50048

/-- What `p`'s buffer holds once the table is written to it: the rows' words; its last 96 words are of no row. -/
def Tabled (d : Dev nD) (f : S1x1x100096.Idx → Elt F .f32) : Prop := ∀ k : S1x1x100096.Idx, (k 2).val < 100000 → f k = tb d (k 2).val

/-- A half's word `i` is the word of `p` at the half's start and `i` more. -/
theorem pHalf_read (off : Fin 3 → ℕ) (h : ∀ a, off a + S1x1x50048.size a ≤ S1x1x100096.size a) (f : S1x1x100096.Idx → Elt F .f32) (i : S50048.Idx) :
    ∃ k : S1x1x100096.Idx, (pHalf off h).view.read (Elt F) f i = f k ∧ (k 2).val = off 2 + (i 0).val := by
  refine ⟨(pHalf off h).view.emb i, rfl, ?_⟩
  have e : Shape.reshapeEquiv (s' := S50048) (s := S1x1x50048) squeezes_S1x1x50048_S50048.numel_eq i = ix3 0 0 (i 0) :=
    Shape.reshapeEquiv_eq_of_vals _ _ _ _ _ (rowMajor_val3 _ 50048 50048 rfl rfl) (rowMajor_val1 _) (by simp [ix3])
  show off 2 + 1 * ((Shape.reshapeEquiv (s' := S50048) (s := S1x1x50048) squeezes_S1x1x50048_S50048.numel_eq i) 2).val = _
  rw [e, one_mul]; rfl

/-- Tile 0's copy of a half of the table. -/
theorem wp_fill {α : Type} (d : Dev nD) (c : Fin τ.nSC) (i : Fin τ.nSub) (off : Fin 3 → ℕ) (h : ∀ a, off a + S1x1x50048.size a ≤ S1x1x100096.size a)
    (sm : DmaSems sig S_) (q : PosShare TreeShare) (f : Buf (Elt F) (pLoc d)) (g : Buf (Elt F) (shLoc d c))
    (O : CellTallies nD τ sig (HIx 3)) (W : Waits sig (HIx 3))
    {p : Prog (TpuEff nD τ sig (Elt F) Λ₀ (.scVector c i)) α} {Ψ : α → sProp 𝕄} :
    iprop((pLoc d ↦{q} f) ∗ (shLoc d c ↦{fullShare} g) ∗ semVal (V d c i, SemLoc.dma sm.sem) 0 ∗ owes (V d c i) O W ∗ Transfers.MayWaits (V d c i) (default : HIx 3) O)
      ⊢ iprop((iprop((pLoc d ↦{q} f) ∗ (shLoc d c ↦{fullShare} (pHalf off h).view.read (Elt F) f) ∗ semVal (V d c i, SemLoc.dma sm.sem) 0
            ∗ ∃ W', ⌜∀ p ∈ W', p ∈ W ∨ p.2 = none⌝ ∗ owes (V d c i) O W')
          -∗ wp frame (wpE (defs₀ (F := F)) 𝒱₀ (V d c i) none) Set.univ p Ψ)
        -∗ wp frame (wpE (defs₀ (F := F)) 𝒱₀ (V d c i) none) Set.univ
          (do
              Prog.lift (.enqueueDma (pHalf off h) (.here shV) (.dma sm.sem) ((View.wordExact_bits rfl).reshape _ _) (Memref.isWhole_whole cc1_scratch2).wordExact ⟨Or.inl rfl, trivial⟩)
              Prog.lift (.waitDma2 sm.sem (pHalf off h) shV ((View.wordExact_bits rfl).reshape _ _) (Memref.isWhole_whole cc1_scratch2).wordExact)
              p) Ψ) := by
  iintro ⟨Hp, Hsh, Hsem, HO, Hmw⟩ Hk
  ihave Hp := (show (pLoc d ↦{q} f) ⊢ (pV.view.loc (V d c i) ↦{q} f : sProp 𝕄) from Entails.refl _) $$ Hp
  ihave Hsh := (show (shLoc d c ↦{fullShare} g) ⊢ (shV.view.loc (V d c i) ↦{fullShare} g : sProp 𝕄) from Entails.refl _) $$ Hsh
  sl_exec
  iapply Hk
  isplitl [Hp]; · iexact Hp
  isplitl [Hsh]
  · rw [show (shV.view.write (Elt F) g (wp_fill.sl.dma0 d off h f) Finset.univ) = (pHalf off h).view.read (Elt F) f from View.write_whole_univ _ _ _]
    iexact Hsh
  isplitl [Hsem]; · iexact Hsem
  iexists _; isplitr
  swap; · iexact HO
  ipureintro; intro p hp
  rcases Finset.mem_insert.mp hp with hp | hp; · exact .inr (hp ▸ rfl)
  exact .inl hp

/-- The first half of `p`, read into the shared table, is what barrier 0 hands over. -/
theorem holds_fst (d : Dev nD) (h : ∀ a, (![0, 0, 0] : Fin 3 → ℕ) a + S1x1x50048.size a ≤ S1x1x100096.size a) (f : S1x1x100096.Idx → Elt F .f32) (hf : Tabled tb d f) :
    Holds tb d 0 ((pHalf ![0, 0, 0] h).view.read (Elt F) f) := by
  intro i
  obtain ⟨k, e, hk⟩ := pHalf_read ![0, 0, 0] h f i
  have hk' : (k 2).val = (i 0).val := hk.trans (Nat.zero_add _)
  have hi : (i 0).val < 50048 := (i 0).isLt
  rw [e, hf k (by omega), hk']

/-- The second half of `p`, read into the shared table, is what barrier 2 hands over. -/
theorem holds_snd (d : Dev nD) (h : ∀ a, (![0, 0, 50048] : Fin 3 → ℕ) a + S1x1x50048.size a ≤ S1x1x100096.size a) (f : S1x1x100096.Idx → Elt F .f32) (hf : Tabled tb d f) :
    Holds tb d 2 ((pHalf ![0, 0, 50048] h).view.read (Elt F) f) := by
  intro i hi
  obtain ⟨k, e, hk⟩ := pHalf_read ![0, 0, 50048] h f i
  have hk' : (k 2).val = 50048 + (i 0).val := hk
  rw [e, hf k (by omega), hk']

end Cert.Proof.Pool

end
-- ==== Proof.Copies.lean ====
/-
  A tile's two copies of a half of the table, from the shared table to its own, in flight together.
-/
module

public import proofs.«01_k».proof.Proof.Fill

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F] [Named F]

local notation "𝕄" => MT nD τ sig (HIx 3) (Elt F) ℕ UU ℕ

/-! ## A half of the table, from the shared table to the tile's own -/

/-- The tile's own table. -/
abbrev tLoc (d : Dev nD) (c : Fin τ.nSC) (i : Fin τ.nSub) : Loc nD τ sig := (V d c i).loc cc1_scratch1

/-- A quarter of the tile's table. -/
abbrev tPart (o : Fin 1 → ℕ) (h : ∀ a, o a + S25024.size a ≤ S100096.size a) : Memref sig .scVector .vmem S25024 .f32 :=
  tV.slice (Rect.unit (s := S100096) o S25024.size h) (fun _ => rfl)
/-- A half of the shared half table. -/
abbrev shPart (o : Fin 1 → ℕ) (h : ∀ a, o a + S25024.size a ≤ S50048.size a) : Memref sig .scVector .shared S25024 .f32 :=
  shV.slice (Rect.unit (s := S50048) o S25024.size h) (fun _ => rfl)

/-- A quarter's word `x` is the table's word at the quarter's start and `x` more. -/
theorem tPart_emb (o : Fin 1 → ℕ) (h : ∀ a, o a + S25024.size a ≤ S100096.size a) (x : S25024.Idx) :
    (((tPart o h).view.emb x : S100096.Idx) 0).val = o 0 + (x 0).val := by
  show o 0 + 1 * (x 0).val = _
  rw [one_mul]

/-- A window's words in the tile's table after a write through it: what is written. -/
theorem tPart_in (o : Fin 1 → ℕ) (h : ∀ a, o a + S25024.size a ≤ S100096.size a) (g : S100096.Idx → Elt F .f32) (w : S25024.Idx → Elt F .f32)
    (k : S100096.Idx) (x : S25024.Idx) (hk : (k 0).val = o 0 + (x 0).val) : (tPart o h).view.write (Elt F) g w Finset.univ k = w x := by
  have e : (tPart o h).view.emb x = k := by
    funext a
    match a with
    | 0 => exact Fin.ext ((tPart_emb o h x).trans hk.symm)
  rw [← e]
  exact View.write_emb_of_mem (v := (tPart o h).view) (Val := Elt F) g w (Finset.mem_univ x)

/-- The other words: as they were. -/
theorem tPart_out (o : Fin 1 → ℕ) (h : ∀ a, o a + S25024.size a ≤ S100096.size a) (g : S100096.Idx → Elt F .f32) (w : S25024.Idx → Elt F .f32)
    (k : S100096.Idx) (hk : (k 0).val < o 0 ∨ o 0 + 25024 ≤ (k 0).val) : (tPart o h).view.write (Elt F) g w Finset.univ k = g k := by
  refine View.write_of_not_mem (v := (tPart o h).view) (Val := Elt F) g w _ fun hm => ?_
  obtain ⟨x, -, e⟩ := Finset.mem_map.mp hm
  have hx : (x 0).val < 25024 := (x 0).isLt
  have := tPart_emb o h x
  rw [show (tPart o h).view.emb x = k from e] at this
  omega

/-- A quarter and the next have no word in common. -/
theorem tPart_disjoint (o₁ o₂ : Fin 1 → ℕ) (h₁ : ∀ a, o₁ a + S25024.size a ≤ S100096.size a) (h₂ : ∀ a, o₂ a + S25024.size a ≤ S100096.size a)
    (ho : o₂ 0 = o₁ 0 + 25024) : Disjoint (tPart o₁ h₁).view.set (tPart o₂ h₂).view.set := by
  refine Finset.disjoint_left.mpr fun k hk hk' => ?_
  obtain ⟨x, -, e⟩ := Finset.mem_map.mp hk
  obtain ⟨y, -, e'⟩ := Finset.mem_map.mp hk'
  have hx : (x 0).val < 25024 := (x 0).isLt
  have e1 := tPart_emb o₁ h₁ x
  have e2 := tPart_emb o₂ h₂ y
  rw [show (tPart o₁ h₁).view.emb x = k from e] at e1
  rw [show (tPart o₂ h₂).view.emb y = k from e'] at e2
  omega

/-- A window's words of the shared table. -/
theorem shPart_read (o : Fin 1 → ℕ) (h : ∀ a, o a + S25024.size a ≤ S50048.size a) (f : S50048.Idx → Elt F .f32) (x : S25024.Idx) (j : S50048.Idx)
    (hj : (j 0).val = o 0 + (x 0).val) : (shPart o h).view.read (Elt F) f x = f j := by
  show f ((shPart o h).view.emb x) = f j
  refine congrArg f (funext fun a => ?_)
  match a with
  | 0 => exact Fin.ext ((show o 0 + 1 * (x 0).val = o 0 + (x 0).val by rw [one_mul]).trans hj.symm)

/-- The two copies. The half lands at `b` in the tile's table: the words there are the shared table's, the others as they
    were. -/
theorem wp_copies {α : Type} (d : Dev nD) (c : Fin τ.nSC) (i : Fin τ.nSub) (b : ℕ) (o₁ o₂ : Fin 1 → ℕ) (e₁ : o₁ 0 = b) (e₂ : o₂ 0 = b + 25024)
    (h₁ : ∀ a, o₁ a + S25024.size a ≤ S100096.size a) (h₂ : ∀ a, o₂ a + S25024.size a ≤ S100096.size a)
    (q : PosShare TreeShare) (f : Buf (Elt F) (shLoc d c)) (g : Buf (Elt F) (tLoc d c i))
    (O : CellTallies nD τ sig (HIx 3)) (W : Waits sig (HIx 3))
    {p : PUnit → Prog (TpuEff nD τ sig (Elt F) Λ₀ (.scVector c i)) α} {Ψ : α → sProp 𝕄}
    (_ : Transfers.BatchOf (V d c i) (SemLoc.dma (sig := sig) cc1_scratch5.sem) 2 (windows := true)) :
    iprop((shLoc d c ↦{q} f) ∗ (tLoc d c i ↦{fullShare} g) ∗ semVal (V d c i, SemLoc.dma cc1_scratch5.sem) 0 ∗ owes (V d c i) O W
        ∗ Transfers.MayWaits (V d c i) (default : HIx 3) O)
      ⊢ iprop((iprop((shLoc d c ↦{q} f) ∗ (∃ g' : Buf (Elt F) (tLoc d c i), ⌜(∀ (k : S100096.Idx) (j : S50048.Idx), (k 0).val = b + (j 0).val → g' k = f j)
              ∧ ∀ k : S100096.Idx, (k 0).val < b → g' k = g k⌝ ∗ tLoc d c i ↦{fullShare} g')
            ∗ semVal (V d c i, SemLoc.dma cc1_scratch5.sem) 0 ∗ ∃ W', ⌜∀ p ∈ W', p ∈ W ∨ p.2 = none⌝ ∗ owes (V d c i) O W')
          -∗ wp frame (wpE (defs₀ (F := F)) 𝒱₀ (V d c i) none) Set.univ (p ⟨⟩) Ψ)
        -∗ wp frame (wpE (defs₀ (F := F)) 𝒱₀ (V d c i) none) Set.univ
          (do
              Prog.lift (.enqueueDma (shPart ![0] inb_S50048_S25024_0) (.here (tPart o₁ h₁)) (.dma cc1_scratch5.sem) (View.wordExact_bits rfl) (View.wordExact_bits rfl) ⟨Or.inl rfl, trivial⟩)
              Prog.lift (.enqueueDma (shPart ![25024] inb_S50048_S25024_25024) (.here (tPart o₂ h₂)) (.dma cc1_scratch5.sem) (View.wordExact_bits rfl) (View.wordExact_bits rfl) ⟨Or.inl rfl, trivial⟩)
              Prog.lift (.waitDma2 cc1_scratch5.sem (shPart ![0] inb_S50048_S25024_0) (tPart o₁ h₁) (View.wordExact_bits rfl) (View.wordExact_bits rfl))
              Prog.lift (.waitDma2 cc1_scratch5.sem (shPart ![25024] inb_S50048_S25024_25024) (tPart o₂ h₂) (View.wordExact_bits rfl) (View.wordExact_bits rfl)) >>= p) Ψ) := by
  iintro ⟨Hsh, Ht, Hsem, HO, Hmw⟩ Hk
  ihave Ht := (show (tLoc d c i ↦{fullShare} g) ⊢ (tV.view.loc (V d c i) ↦{fullShare} g : sProp 𝕄) from Entails.refl _) $$ Ht
  ihave Hsh := (show (shLoc d c ↦{q} f) ⊢ (shV.view.loc (V d c i) ↦{q} f : sProp 𝕄) from Entails.refl _) $$ Hsh
  have hd := tPart_disjoint o₁ o₂ h₁ h₂ (by rw [e₁, e₂])
  have hd' := hd.symm
  sl_exec
  iapply Hk
  isplitl [Hsh]; · iexact Hsh
  isplitl [Ht]
  · iexists _; isplitr
    swap; · iexact Ht
    ipureintro
    unfold wp_copies.sl.Ht_w1 wp_copies.sl.Ht_w0
    refine ⟨fun k j hk => ?_, fun k hk => ?_⟩
    · have hj : (j 0).val < 50048 := (j 0).isLt
      by_cases hlt : (j 0).val < 25024
      · rw [tPart_out o₂ h₂ _ _ k (.inl (by omega)), tPart_in o₁ h₁ _ _ k (ix1 ⟨(j 0).val, hlt⟩) (by rw [e₁]; exact hk)]
        exact shPart_read _ _ f _ j (by simp [ix1])
      · rw [tPart_in o₂ h₂ _ _ k (ix1 ⟨(j 0).val - 25024, by omega⟩) (by rw [e₂]; show _ = b + 25024 + ((j 0).val - 25024); omega)]
        exact shPart_read _ _ f _ j (show (j 0).val = 25024 + ((j 0).val - 25024) by omega)
    · rw [tPart_out o₂ h₂ _ _ k (.inl (by omega)), tPart_out o₁ h₁ _ _ k (.inl (by omega))]
  isplitl [Hsem]; · iexact Hsem
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.Proof.Pool

end
-- ==== Proof.Sums.lean ====
/-
  A tile's sums: in trip `l` of its loop a tile reads the 128 row numbers of line `l` of its columns, sixteen at a time,
  and adds to its eight vectors of sums the words its table has for them.
-/
module

public import proofs.«01_k».proof.Proof.Copies

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F] [Named F]

local notation "𝕄" => MT nD τ sig (HIx 3) (Elt F) ℕ UU ℕ

variable (tb : Tab F) (m : (ℓ : Loc nD τ sig) → Buf (Elt F) ℓ)

/-! ## The values -/

/-- The row number at line `l` of column `b` of `x`. -/
def rowAt (d : Dev nD) (l b : ℕ) : ℕ :=
  if h : l < 200 ∧ b < 4096 then (m (xLoc d) (ix2 (⟨l, h.1⟩ : Fin 200) (⟨b, h.2⟩ : Fin 4096)) : BitVec 32).toNat else 0

/-- The sum over the first `n` lines of column `b`, in the order the kernel adds them. -/
def sumTo (d : Dev nD) (b : ℕ) : ℕ → Elt F .f32
  | 0 => Scalar.ofBits .f32 0x00000000#32
  | n + 1 => FloatOps.addf (sumTo d b n) (tb d (rowAt m d n b))

/-- Sixteen columns' sums from column `b` on. -/
def sums (d : Dev nD) (b n : ℕ) : FVec F S16 .f32 := fun x => sumTo tb m d (b + (x 0).val) n
/-- The words of the table line `l` names at sixteen columns from `b` on. -/
def words (d : Dev nD) (b l : ℕ) : FVec F S16 .f32 := fun x => tb d (rowAt m d l (b + (x 0).val))

/-- The sums over one line more. -/
theorem sums_succ (d : Dev nD) (b n : ℕ) : addf (sums tb m d b n) (words tb m d b n) = sums tb m d b (n + 1) := rfl

/-- What the tile's table holds after its copies: the rows' words; its last 96 words are of no row. -/
def Filled (d : Dev nD) (g : S100096.Idx → Elt F .f32) : Prop := ∀ k : S100096.Idx, (k 0).val < 100000 → g k = tb d (k 0).val
/-- What the tile's row numbers are: its 128 columns of `x`, from column `b` on. -/
def Fetched (d : Dev nD) (b : ℕ) (f : S200x128.Idx → Elt F .i32) : Prop :=
  ∀ j : S200x128.Idx, (f j : BitVec 32).toNat = rowAt m d (j 0).val (b + (j 1).val)

/-- The tile's own row numbers. -/
abbrev iLoc (d : Dev nD) (c : Fin τ.nSC) (i : Fin τ.nSub) : Loc nD τ sig := (V d c i).loc cc1_scratch0

/-- The sixteen row numbers that a load reads. -/
abbrev lineLd (f : S200x128.Idx → Elt F .i32) (off : Fin 2 → ℕ) (h : ∀ a, off a + S1x16.size a ≤ S200x128.size a) : Vec F S1x16 .i32 :=
  iV.view.readAt (Elt F) (Rect.unit (s := S200x128) off S1x16.size h).toLoadRect f

/-- They are the row numbers at line `l` of the sixteen columns from `b + n` on. -/
theorem line_word (d : Dev nD) (b : ℕ) (f : S200x128.Idx → Elt F .i32) (hf : Fetched m d b f) (l n : ℕ) (off : Fin 2 → ℕ) (e : off = ![l, n])
    (h : ∀ a, off a + S1x16.size a ≤ S200x128.size a) (v : Vec F S1x16 .i32) (hv : v = lineLd f off h) (x : S16.Idx) :
    (shapeCast S16 v shapeCasts_S1x16_S16 x : BitVec 32).toNat = rowAt m d l (b + n + (x 0).val) := by
  subst e hv
  refine (congrArg BitVec.toNat (shapeCast_dropUnit_apply ![16] (lineLd f ![l, n] h) shapeCasts_S1x16_S16 x)).trans ?_
  refine (hf ((Rect.unit (s := S200x128) ![l, n] S1x16.size h).toLoadRect.idx (Fin.cons ⟨0, Nat.one_pos⟩ x))).trans ?_
  show rowAt m d (l + 1 * 0) (b + (n + 1 * (x 0).val)) = _
  rw [mul_zero, add_zero, one_mul, add_assoc]

/-- The load of sixteen row numbers, the check that they are in the table, which they pass, and the indexed load at
    them: the words that line `l` names. -/
theorem wp_gather {α : Type} (d : Dev nD) (c : Fin τ.nSC) (i : Fin τ.nSub) (b l n : ℕ) (off : Fin 2 → ℕ) (e : off = ![l, n])
    (h : ∀ a, off a + S1x16.size a ≤ S200x128.size a) (Chk : IVec S16 32 → Prop) (dec : ∀ v, Decidable (Chk v))
    (hinb : ∀ v, Chk v → ∀ (a : Fin 1) (x : S16.Idx), ((![v] : Fin 1 → IVec S16 32) a x).toNat < S100096.size a)
    (hchk : ∀ v, (∀ (a : Fin 1) (x : S16.Idx), ((![v] : Fin 1 → IVec S16 32) a x).toNat < S100096.size a) → Chk v)
    (f : Buf (Elt F) (iLoc d c i)) (hf : Fetched m d b f) (g : Buf (Elt F) (tLoc d c i)) (hg : Filled tb d g)
    (hlt : ∀ l b, rowAt m d l b < 100000)
    {p : Vec F S16 .f32 → Prog (TpuEff nD τ sig (Elt F) Λ₀ (.scVector c i)) α} {Ψ : α → sProp 𝕄} :
    iprop((iLoc d c i ↦{fullShare} f) ∗ (tLoc d c i ↦{fullShare} g))
      ⊢ iprop((iprop((iLoc d c i ↦{fullShare} f) ∗ (tLoc d c i ↦{fullShare} g))
          -∗ wp frame (wpE (defs₀ (F := F)) 𝒱₀ (V d c i) none) Set.univ (p (words tb m d (b + n) l)) Ψ)
        -∗ wp frame (wpE (defs₀ (F := F)) 𝒱₀ (V d c i) none) Set.univ
          (Prog.lift (.load iV (Rect.unit (s := S200x128) off S1x16.size h).toLoadRect (View.loadsAt_vmem h_S1x16)) >>= fun ld =>
            Prog.lift (TpuEff.assume (Chk (shapeCast S16 ld shapeCasts_S1x16_S16)) (dec (shapeCast S16 ld shapeCasts_S1x16_S16))) >>= fun hw =>
            SparseCore.vectorLoadIdx tV ![shapeCast S16 ld shapeCasts_S1x16_S16] (hinb (shapeCast S16 ld shapeCasts_S1x16_S16) hw.down)
              (View.loads_vmem h_S100096) >>= p) Ψ) := by
  iintro ⟨Hi, Ht⟩ Hk
  ihave Hi := (show (iLoc d c i ↦{fullShare} f) ⊢ (iV.view.loc (V d c i) ↦{fullShare} f : sProp 𝕄) from Entails.refl _) $$ Hi
  sl_exec
  have hw := line_word m d b f hf l n off e h _ rfl
  have hc : Chk (shapeCast S16 (lineLd f off h) shapeCasts_S1x16_S16) := hchk _ fun a x => by
    match a with
    | 0 => exact lt_of_eq_of_lt (hw x) (lt_trans (hlt _ _) (by decide))
  rw [wp_assume_of _ _ _ _ hc]
  iapply (SparseCore.wp_vectorLoadIdx 𝒱₀ (V d c i) none Set.univ (base := tV) (S := Finset.univ) (q := fullShare) (Finset.subset_univ _)) $$ Ht
  iintro Ht
  rw [show loadIdx ((tV.access (.whole S100096)).read (Elt F) g) ![shapeCast S16 (lineLd f off h) shapeCasts_S1x16_S16] (hinb _ hc) = words tb m d (b + n) l from
    funext fun x => by
      rw [show (tV.access (.whole S100096)).read (Elt F) g = g from Memref.read_access_whole (Elt F) cc1_scratch1 g]
      show g (idxAt ![shapeCast S16 (lineLd f off h) shapeCasts_S1x16_S16] (hinb _ hc) x) = tb d (rowAt m d l (b + n + (x 0).val))
      rw [hg _ (lt_of_eq_of_lt (hw x) (hlt _ _))]
      exact congrArg (tb d) (hw x)]
  iapply Hk
  isplitl [Hi]; · iexact Hi
  iexact Ht

/-! ## The loop -/

/-- The loop has 200 trips. -/
theorem trips_eq : k1_t1_loop.trips = 200 := by decide

/-- The eight vectors of sums that the loop carries. -/
abbrev Acc (F : FTy → Type) [FloatOps F] : Type :=
  FVec F S16 .f32 × FVec F S16 .f32 × FVec F S16 .f32 × FVec F S16 .f32 × FVec F S16 .f32 × FVec F S16 .f32 × FVec F S16 .f32 × FVec F S16 .f32

/-- The eight vectors of sums over the first `n` lines of the 128 columns from `b` on. -/
def allSums (d : Dev nD) (b n : ℕ) : Acc F :=
  (sums tb m d (b + 0) n, sums tb m d (b + 16) n, sums tb m d (b + 32) n, sums tb m d (b + 48) n,
    sums tb m d (b + 64) n, sums tb m d (b + 80) n, sums tb m d (b + 96) n, sums tb m d (b + 112) n)

variable (d : Dev nD) (L : grid1.Coords)

/-- The SparseCore of the tile at `L`. -/
abbrev cV (L : grid1.Coords) : Fin τ.nSC := (L 0).castLE hcore1
/-- The tile at `L` within its SparseCore. -/
abbrev jV (L : grid1.Coords) : Fin τ.nSub := (L 1).castLE hsub1

/-- Before trip `n`: the sums over the first `n` lines. -/
def sumInv (b : ℕ) (f : Buf (Elt F) (iLoc d (cV L) (jV L))) (g : Buf (Elt F) (tLoc d (cV L) (jV L))) (n : ℕ) (a : Acc F) : sProp 𝕄 :=
  iprop(⌜a = allSums tb m d b n⌝ ∗ (iLoc d (cV L) (jV L) ↦{fullShare} f) ∗ (tLoc d (cV L) (jV L) ↦{fullShare} g))

/-- The loop: from zeros to the sums over the 200 lines. -/
theorem wp_sums {α : Type} (b : ℕ) (f : Buf (Elt F) (iLoc d (cV L) (jV L))) (hf : Fetched m d b f)
    (g : Buf (Elt F) (tLoc d (cV L) (jV L))) (hg : Filled tb d g) (hlt : ∀ l b, rowAt m d l b < 100000) (v24 : BitVec 1)
    {p : Acc F → Prog (TpuEff nD τ sig (Elt F) Λ₀ (.scVector (cV L) (jV L))) α} {Ψ : α → sProp 𝕄} :
    iprop((iLoc d (cV L) (jV L) ↦{fullShare} f) ∗ (tLoc d (cV L) (jV L) ↦{fullShare} g))
      ⊢ iprop((iprop((iLoc d (cV L) (jV L) ↦{fullShare} f) ∗ (tLoc d (cV L) (jV L) ↦{fullShare} g))
          -∗ wp frame (wpE (defs₀ (F := F)) 𝒱₀ (V d (cV L) (jV L)) none) Set.univ (p (allSums tb m d b 200)) Ψ)
        -∗ wp frame (wpE (defs₀ (F := F)) 𝒱₀ (V d (cV L) (jV L)) none) Set.univ
          (Scf.Loop.for k1_t1_loop k1_t1_ok (k1_pay1 (F := F), k1_pay1 (F := F), k1_pay1 (F := F), k1_pay1 (F := F), k1_pay1 (F := F), k1_pay1 (F := F),
              k1_pay1 (F := F), k1_pay1 (F := F))
            (k1_t1_body L xV (Memref.isWhole_whole _) pV (Memref.isWhole_whole _) oV (Memref.isWhole_whole _) iV (Memref.isWhole_whole _)
              tV (Memref.isWhole_whole _) shV (Memref.isWhole_whole _) rV (Memref.isWhole_whole _) cc1_scratch4 cc1_scratch5 cc1_scoped0 cc1_scoped1
              cc1_scoped2 v24) >>= p) Ψ) := by
  iintro ⟨Hi, Ht⟩ Hk
  sl_for (sumInv tb m d L b f g) $$ [Hi Ht]
  case region =>
    intro k a
    unfold sumInv
    iintro ⟨%ha, H⟩
    subst ha
    unfold allSums wp_sums.sl.prog.body_1 k1_t1_body
    dsimp only
    iapply (wp_gather tb m d (cV L) (jV L) b k.val 0 (k1_off2 k) (k1_off2_eq k) (k1_off2_inb k) k1_chk1 k1_chk1.dec k1_idx1_inb (fun _ h => h)
      f hf g hg hlt) $$ H
    iintro H
    iapply (wp_gather tb m d (cV L) (jV L) b k.val 16 (k1_off3 k) (k1_off3_eq k) (k1_off3_inb k) k1_chk2 k1_chk2.dec k1_idx2_inb (fun _ h => h)
      f hf g hg hlt) $$ H
    iintro H
    iapply (wp_gather tb m d (cV L) (jV L) b k.val 32 (k1_off4 k) (k1_off4_eq k) (k1_off4_inb k) k1_chk3 k1_chk3.dec k1_idx3_inb (fun _ h => h)
      f hf g hg hlt) $$ H
    iintro H
    iapply (wp_gather tb m d (cV L) (jV L) b k.val 48 (k1_off5 k) (k1_off5_eq k) (k1_off5_inb k) k1_chk4 k1_chk4.dec k1_idx4_inb (fun _ h => h)
      f hf g hg hlt) $$ H
    iintro H
    iapply (wp_gather tb m d (cV L) (jV L) b k.val 64 (k1_off6 k) (k1_off6_eq k) (k1_off6_inb k) k1_chk5 k1_chk5.dec k1_idx5_inb (fun _ h => h)
      f hf g hg hlt) $$ H
    iintro H
    iapply (wp_gather tb m d (cV L) (jV L) b k.val 80 (k1_off7 k) (k1_off7_eq k) (k1_off7_inb k) k1_chk6 k1_chk6.dec k1_idx6_inb (fun _ h => h)
      f hf g hg hlt) $$ H
    iintro H
    iapply (wp_gather tb m d (cV L) (jV L) b k.val 96 (k1_off8 k) (k1_off8_eq k) (k1_off8_inb k) k1_chk7 k1_chk7.dec k1_idx7_inb (fun _ h => h)
      f hf g hg hlt) $$ H
    iintro H
    iapply (wp_gather tb m d (cV L) (jV L) b k.val 112 (k1_off9 k) (k1_off9_eq k) (k1_off9_inb k) k1_chk8 k1_chk8.dec k1_idx8_inb (fun _ h => h)
      f hf g hg hlt) $$ H
    iintro H
    sl_step
    isplitr; · ipureintro; rfl
    iexact H
  · unfold sumInv
    isplitr; · ipureintro; rfl
    isplitl [Hi] <;> iassumption
  iintro %a HI
  unfold sumInv
  icases HI with ⟨%ha, HI⟩
  subst ha
  rw [show Scf.trips k1_t1_loop.lb k1_t1_loop.ub k1_t1_loop.st = 200 from trips_eq]
  unfold wp_sums.sl.prog.cont_1
  iapply Hk; iexact HI

end Cert.Proof.Pool

end
-- ==== Proof.Words.lean ====
/-
  The words a tile writes out: its eight stores of sums to its result buffer, and the copy of that buffer to its words of
  the output.
-/
module

public import proofs.«01_k».proof.Proof.Sums

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F] [Named F]

local notation "𝕄" => MT nD τ sig (HIx 3) (Elt F) ℕ UU ℕ

/-- The tile's own sums, before they are written out. -/
abbrev resLoc (d : Dev nD) (c : Fin τ.nSC) (i : Fin τ.nSub) : Loc nD τ sig := (V d c i).loc cc1_scratch3

/-- Sixteen words of them. -/
abbrev rPart (o : Fin 1 → ℕ) (h : ∀ a, o a + S16.size a ≤ S128.size a) : Rect S128 := Rect.unit (s := S128) o S16.size h

/-- The first `n` words of the result buffer are what they are to be. -/
def Written (val : ℕ → Elt F .f32) (n : ℕ) (r : S128.Idx → Elt F .f32) : Prop := ∀ k : S128.Idx, (k 0).val < n → r k = val (k 0).val

/-- A store of sixteen words after the first `n`. -/
theorem written_put (val : ℕ → Elt F .f32) (n : ℕ) (o : Fin 1 → ℕ) (e : o 0 = n) (h : ∀ a, o a + S16.size a ≤ S128.size a) (v : S16.Idx → Elt F .f32)
    (hv : ∀ x : S16.Idx, v x = val (n + (x 0).val)) (r : S128.Idx → Elt F .f32) (hr : Written val n r) :
    Written val (n + 16) ((rV.access (rPart o h)).write (Elt F) r v Finset.univ) := by
  intro k hk
  have hemb : ∀ x : S16.Idx, (((rV.access (rPart o h)).emb x : S128.Idx) 0).val = n + (x 0).val := fun x => by
    show o 0 + 1 * (x 0).val = _
    rw [one_mul, e]
  by_cases hlt : (k 0).val < n
  · refine (View.write_of_not_mem (v := rV.access (rPart o h)) (Val := Elt F) r v _ fun hm => ?_).trans (hr k hlt)
    obtain ⟨x, -, ex⟩ := Finset.mem_map.mp hm
    have := hemb x
    rw [show (rV.access (rPart o h)).emb x = k from ex] at this
    omega
  · have ex : (rV.access (rPart o h)).emb (ix1 (⟨(k 0).val - n, by omega⟩ : Fin 16)) = k := by
      funext a
      match a with
      | 0 => exact Fin.ext ((hemb _).trans (by show n + ((k 0).val - n) = (k 0).val; omega))
    have hw := View.write_emb_of_mem (v := rV.access (rPart o h)) (Val := Elt F) r v (Finset.mem_univ (ix1 (⟨(k 0).val - n, by omega⟩ : Fin 16)))
    rw [ex] at hw
    rw [hw, hv]
    exact congrArg val (show n + ((k 0).val - n) = (k 0).val by omega)

/-- The store of sixteen sums after the first `n`. -/
theorem wp_put {α : Type} (val : ℕ → Elt F .f32) (d : Dev nD) (c : Fin τ.nSC) (i : Fin τ.nSub) (n : ℕ) (o : Fin 1 → ℕ) (e : o 0 = n)
    (h : ∀ a, o a + S16.size a ≤ S128.size a) (v : FVec F S16 .f32) (hv : ∀ x : S16.Idx, v x = val (n + (x 0).val))
    {p : PUnit → Prog (TpuEff nD τ sig (Elt F) Λ₀ (.scVector c i)) α} {Ψ : α → sProp 𝕄} :
    iprop(∃ r, ⌜Written val n r⌝ ∗ resLoc d c i ↦{fullShare} r)
      ⊢ iprop(((∃ r, ⌜Written val (n + 16) r⌝ ∗ resLoc d c i ↦{fullShare} r)
          -∗ wp frame (wpE (defs₀ (F := F)) 𝒱₀ (V d c i) none) Set.univ (p ⟨⟩) Ψ)
        -∗ wp frame (wpE (defs₀ (F := F)) 𝒱₀ (V d c i) none) Set.univ
          (Prog.lift (.store rV (rPart o h) v Finset.univ (View.stores_vmem_bits_univ h_S16 rfl) (.inl rfl)) >>= p) Ψ) := by
  iintro ⟨%r, %hr, Hr⟩ Hk
  ihave Hr := (show (resLoc d c i ↦{fullShare} r) ⊢ (rV.view.loc (V d c i) ↦{fullShare} r : sProp 𝕄) from Entails.refl _) $$ Hr
  sl_exec
  iapply Hk
  iexists rV.view.writes (Elt F) r [⟨rPart o h, v⟩]
  isplitr; · ipureintro; exact written_put val n o e h v hv r hr
  iexact Hr

/-- A load from the result buffer whose words are not used. -/
theorem wp_look {α : Type} (P : (S128.Idx → Elt F .f32) → Prop) (d : Dev nD) (c : Fin τ.nSC) (i : Fin τ.nSub) (o : Fin 1 → ℕ)
    (h : ∀ a, o a + S16.size a ≤ S128.size a)
    {p : Prog (TpuEff nD τ sig (Elt F) Λ₀ (.scVector c i)) α} {Ψ : α → sProp 𝕄} :
    iprop(∃ r, ⌜P r⌝ ∗ resLoc d c i ↦{fullShare} r)
      ⊢ iprop(((∃ r, ⌜P r⌝ ∗ resLoc d c i ↦{fullShare} r)
          -∗ wp frame (wpE (defs₀ (F := F)) 𝒱₀ (V d c i) none) Set.univ p Ψ)
        -∗ wp frame (wpE (defs₀ (F := F)) 𝒱₀ (V d c i) none) Set.univ
          (Prog.lift (.load rV (rPart o h).toLoadRect (View.loadsAt_vmem h_S16)) >>= fun _ => p) Ψ) := by
  iintro ⟨%r, %hr, Hr⟩ Hk
  ihave Hr := (show (resLoc d c i ↦{fullShare} r) ⊢ (rV.view.loc (V d c i) ↦{fullShare} r : sProp 𝕄) from Entails.refl _) $$ Hr
  sl_exec
  iapply Hk
  iexists r
  isplitr; · ipureintro; exact hr
  iexact Hr

/-! ## The tile's slices of the inputs' columns and of the output's words -/

/-- The columns are 32 tiles' parts. -/
theorem hdiv_x : 32 ∣ S200x4096.size 1 := ⟨128, rfl⟩
/-- So are the output's words. -/
theorem hdiv_o : 32 ∣ S4096.size 0 := ⟨128, rfl⟩

/-- The tile's number among all. -/
def tIx (c : Fin τ.nSC) (i : Fin τ.nSub) : Fin 32 := ⟨2 * i.val + c.val, by have h : i.val < 16 := i.isLt; have h' : c.val < 2 := c.isLt; omega⟩

/-- Tile `w`'s columns of `x`. -/
abbrev xSet (w : Fin 32) : Finset S200x4096.Idx := (Rect.part (s := S200x4096) (a₀ := 1) hdiv_x w).set
/-- Tile `w`'s words of the output. -/
abbrev oSet (w : Fin 32) : Finset S4096.Idx := (Rect.part (s := S4096) (a₀ := 0) hdiv_o w).set

/-- The columns of `x` that the tile at `L` copies. -/
abbrev xSl (L : grid1.Coords) : Memref sig .scVector .hbm S200x128 .i32 :=
  xV.slice (Rect.unit (s := S200x4096) (k1_off1 L) S200x128.size (k1_off1_inb L)) (fun _ => rfl)
/-- The words of the output that the tile at `L` writes. -/
abbrev oSl (L : grid1.Coords) : Memref sig .scVector .hbm S128 .f32 :=
  oV.slice (Rect.unit (s := S4096) (k1_off10 L) S128.size (k1_off10_inb L)) (fun _ => rfl)

/-- They start at 128 times the tile's number. -/
theorem base_eq (L : grid1.Coords) : k1_off10 L 0 = 128 * (tIx (cV L) (jV L)).val := by
  rw [k1_off10_eq]
  show _ = 128 * (2 * (L 1).val + (L 0).val)
  simp; omega

/-- The columns that the tile copies are its own. -/
theorem xSl_set (L : grid1.Coords) : (xSl L).view.set = xSet (tIx (cV L) (jV L)) := by
  show ((View.whole (main_arg0_scv : Ref sig .scVector)).slice (Rect.unit (s := S200x4096) (k1_off1 L) S200x128.size (k1_off1_inb L))).set = _
  rw [View.set_slice]
  refine Finset.map_refl.trans (congrArg (fun r : Rect _ => r.set) ?_)
  unfold Rect.part Rect.block
  congr 1 <;> funext a
  · rw [k1_off1_eq]
    match a with
    | 0 => simp [Shape.partIx, Shape.partSize]
    | 1 => simp [Shape.partIx, Shape.partSize, tIx]; omega
  · match a with
    | 0 => simp [Shape.partSize]
    | 1 => simp [Shape.partSize]

/-- The words that the tile writes are its own. -/
theorem oSl_set (L : grid1.Coords) : (oSl L).view.set = oSet (tIx (cV L) (jV L)) := by
  show ((View.whole (main_v2_scv : Ref sig .scVector)).slice (Rect.unit (s := S4096) (k1_off10 L) S128.size (k1_off10_inb L))).set = _
  rw [View.set_slice]
  refine Finset.map_refl.trans (congrArg (fun r : Rect _ => r.set) ?_)
  unfold Rect.part Rect.block
  congr 1 <;> funext a
  · match a with
    | 0 => rw [base_eq]; simp [Shape.partIx, Shape.partSize]; omega
  · match a with
    | 0 => simp [Shape.partSize]

/-- A tile's columns, as its copy addresses them. -/
theorem pts_x (d : Dev nD) (L : grid1.Coords) (f : Buf (Elt F) (xLoc d)) :
    ((xSl L).view.loc (V d (cV L) (jV L)) ↦[(xSl L).view.set]{fullShare} f : sProp 𝕄) = xLoc d ↦[xSet (tIx (cV L) (jV L))]{fullShare} f := by
  rw [xSl_set]
/-- A tile's words of the output, as its copy addresses them. -/
theorem pts_o (d : Dev nD) (L : grid1.Coords) (f : Buf (Elt F) (oLoc d)) :
    ((oSl L).view.loc (V d (cV L) (jV L)) ↦[(oSl L).view.set]{fullShare} f : sProp 𝕄) = oLoc d ↦[oSet (tIx (cV L) (jV L))]{fullShare} f := by
  rw [oSl_set]

variable (tb : Tab F) (m : (ℓ : Loc nD τ sig) → Buf (Elt F) ℓ)

/-- What the output is to hold. -/
def outVal (d : Dev nD) : S4096.Idx → Elt F .f32 := fun k => sumTo tb m d (k 0).val 200

/-- The row numbers a tile fetches are its columns'. -/
theorem fetched_read (d : Dev nD) (L : grid1.Coords) :
    Fetched m d (128 * (tIx (cV L) (jV L)).val) ((xSl L).view.read (Elt F) (m (xLoc d))) := by
  intro j
  have hl : (j 0).val < 200 := (j 0).isLt
  have hj : (j 1).val < 128 := (j 1).isLt
  have hw := (tIx (cV L) (jV L)).isLt
  have e1 : k1_off1 L 1 = 128 * (tIx (cV L) (jV L)).val := by
    rw [k1_off1_eq]
    show _ = 128 * (2 * (L 1).val + (L 0).val)
    simp; omega
  have e0 : k1_off1 L 0 = 0 := by rw [k1_off1_eq]; rfl
  unfold rowAt
  rw [dif_pos ⟨hl, by omega⟩]
  show (m (xLoc d) ((xSl L).view.emb j) : BitVec 32).toNat = _
  refine congrArg (fun k => (m (xLoc d) k : BitVec 32).toNat) (funext fun a => Fin.ext ?_)
  match a with
  | 0 => show k1_off1 L 0 + 1 * (j 0).val = (j 0).val; omega
  | 1 => show k1_off1 L 1 + 1 * (j 1).val = 128 * (tIx (cV L) (jV L)).val + (j 1).val; omega

/-- The result buffer, once written, copied to the tile's words of the output: what they are to hold. -/
theorem written_out (d : Dev nD) (L : grid1.Coords) (r : S128.Idx → Elt F .f32)
    (hr : Written (fun j => sumTo tb m d (128 * (tIx (cV L) (jV L)).val + j) 200) 128 r) (f : Buf (Elt F) (oLoc d)) (k : S4096.Idx)
    (hk : k ∈ oSet (tIx (cV L) (jV L))) :
    (oSl L).view.writes (Elt F) f [⟨Rect.whole S128, (Memref.whole cc1_scratch3).view.read (Elt F) r⟩] k = outVal tb m d k := by
  rw [← oSl_set] at hk
  obtain ⟨x, -, ex⟩ := Finset.mem_map.mp hk
  have hx : (x 0).val < 128 := (x 0).isLt
  have e : ((oSl L).view.slice (Rect.whole S128)).emb x = k := by
    rw [← ex]
    show (oSl L).view.emb ((Rect.whole S128).emb x) = (oSl L).view.emb x
    refine congrArg (oSl L).view.emb (funext fun a => Fin.ext ?_)
    match a with
    | 0 => show 0 + 1 * (x 0).val = (x 0).val; omega
  have hk0 : (k 0).val = 128 * (tIx (cV L) (jV L)).val + (x 0).val := by
    rw [← ex, ← base_eq]
    show k1_off10 L 0 + 1 * (x 0).val = _
    rw [one_mul]
  have hw := View.write_emb_of_mem (v := (oSl L).view.slice (Rect.whole S128)) (Val := Elt F) f r (Finset.mem_univ x)
  rw [e] at hw
  show ((oSl L).view.slice (Rect.whole S128)).write (Elt F) f r Finset.univ k = _
  rw [hw, hr x hx]
  unfold outVal
  rw [hk0]
  rfl

/-- The output's words from the result buffer. -/
theorem wp_out (d : Dev nD) (L : grid1.Coords) (f : Buf (Elt F) (oLoc d)) (O : CellTallies nD τ sig (HIx 3)) (W : Waits sig (HIx 3))
    {Q : PUnit → sProp 𝕄} :
    iprop((∃ r, ⌜Written (fun j => sumTo tb m d (128 * (tIx (cV L) (jV L)).val + j) 200) 128 r⌝ ∗ resLoc d (cV L) (jV L) ↦{fullShare} r)
        ∗ (oLoc d ↦[oSet (tIx (cV L) (jV L))]{fullShare} f) ∗ semVal (V d (cV L) (jV L), SemLoc.dma (sig := sig) cc1_scoped2.sem) 0 ∗ owes (V d (cV L) (jV L)) O W
        ∗ Transfers.MayWaits (V d (cV L) (jV L)) (default : HIx 3) O)
      ⊢ iprop((iprop((∃ r, resLoc d (cV L) (jV L) ↦{fullShare} r) ∗ (oLoc d ↦[oSet (tIx (cV L) (jV L))]{fullShare} outVal tb m d)
            ∗ semVal (V d (cV L) (jV L), SemLoc.dma (sig := sig) cc1_scoped2.sem) 0
            ∗ ∃ W', ⌜∀ p ∈ W', p ∈ W ∨ p.2 = none⌝ ∗ owes (V d (cV L) (jV L)) O W')
          -∗ Q PUnit.unit)
        -∗ wp frame (wpE (defs₀ (F := F)) 𝒱₀ (V d (cV L) (jV L)) none) Set.univ
          ((do
              Prog.lift (.enqueueDma rV (.here (oSl L)) (.dma cc1_scoped2.sem) (Memref.isWhole_whole cc1_scratch3).wordExact (View.wordExact_bits rfl) ⟨Or.inl rfl, trivial⟩)
              Prog.lift (.waitDma2 cc1_scoped2.sem rV (oSl L) (Memref.isWhole_whole cc1_scratch3).wordExact (View.wordExact_bits rfl))
              pure PUnit.unit) : Prog (TpuEff nD τ sig (Elt F) Λ₀ (.scVector (cV L) (jV L))) PUnit) Q) := by
  iintro ⟨⟨%r, %hr, Hr⟩, Ho, Hsem, HO, Hmw⟩ Hk
  ihave Hr := (show (resLoc d (cV L) (jV L) ↦{fullShare} r) ⊢ (rV.view.loc (V d (cV L) (jV L)) ↦{fullShare} r : sProp 𝕄) from Entails.refl _) $$ Hr
  ihave Ho := (Entails.of_eq (pts_o (F := F) d L f).symm) $$ Ho
  sl_exec
  sl_step
  iapply Hk
  isplitl [Hr]; · iexists r; iexact Hr
  isplitl [Ho]
  · rw [pts_o]
    rw [pointsTo_congr (g := outVal tb m d) fun k hk => written_out tb m d L r hr f k hk]
    exact Entails.refl _
  isplitl [Hsem]; · iexact Hsem
  iexists _; isplitr
  swap; · iexact HO
  ipureintro; intro p hp
  rcases Finset.mem_insert.mp hp with hp | hp; · exact .inr (hp ▸ rfl)
  exact .inl hp

end Cert.Proof.Pool

end
-- ==== Proof.Tile.lean ====
/-
  A tile's run of the kernel, at any SparseCore and any tile: what it is given, what it brings back.
-/
module

public import proofs.«01_k».proof.Proof.Words

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F] [Named F]

local notation "𝕄" => MT nD τ sig (HIx 3) (Elt F) ℕ UU ℕ

variable (tb : Tab F) (m : (ℓ : Loc nD τ sig) → Buf (Elt F) ℓ)

/-! ## What a tile has -/

/-- What the launch deals a tile's run for its barriers. -/
def kit (d : Dev nD) (c : Fin τ.nSC) (i : Fin τ.nSub) : sProp 𝕄 :=
  iprop(known tb d c ∗ atPos EB (bcell d c i) 0 ∅ 0 ∗ ticket d c i 0 ∗ ticket d c i 1 ∗ ticket d c i 2)

/-- What it owes for them. -/
def oxV (d : Dev nD) (c : Fin τ.nSC) : CellTallies nD τ sig (HIx 3) := oxB d c 2 + oxB d c 1 + oxB d c 0

/-- A SparseCore's share of `p`. -/
abbrev shareP (c : Fin τ.nSC) : PosShare TreeShare := Transfers.dealShare fullShare τ.nSC c.val
/-- A SparseCore's share of `p`, the table in it. -/
def pAt (d : Dev nD) (c : Fin τ.nSC) : sProp 𝕄 := iprop(∃ f : Buf (Elt F) (pLoc d), ⌜Tabled tb d f⌝ ∗ pLoc d ↦{shareP c} f)

/-- A tile's columns of `x`. -/
abbrev xMine (d : Dev nD) (c : Fin τ.nSC) (i : Fin τ.nSub) : sProp 𝕄 := xLoc d ↦[xSet (tIx c i)]{fullShare} m (xLoc d)
/-- A tile's words of the output, at `f`. -/
abbrev oMine (d : Dev nD) (c : Fin τ.nSC) (i : Fin τ.nSub) (f : Buf (Elt F) (oLoc d)) : sProp 𝕄 := oLoc d ↦[oSet (tIx c i)]{fullShare} f

/-- What a tile's run starts from. -/
def goT (d : Dev nD) (c : Fin τ.nSC) (i : Fin τ.nSub) : sProp 𝕄 :=
  iprop(xMine m d c i ∗ oMine d c i (m (oLoc d)) ∗ lead i (iprop(pAt tb d c ∗ ∃ g : Buf (Elt F) (shLoc d c), shLoc d c ↦{fullShare} g)))

/-- What it brings back: its words of the output at what they are to hold. -/
def tdT (d : Dev nD) (c : Fin τ.nSC) (i : Fin τ.nSub) : sProp 𝕄 :=
  iprop(xMine m d c i ∗ oMine d c i (outVal tb m d) ∗ handed tb ((d, c), 1, i) ∗ semVal (bcell d c i) 0)

/-- What only tile 0 has may stand in an invariant, -/
instance lead_storable (i : Fin τ.nSub) (R : sProp 𝕄) [BI.Storable (upEmb : UEmb _ 𝕄) R] : BI.Storable (upEmb : UEmb _ 𝕄) (lead i R) := by
  unfold lead; split <;> infer_instance
/-- what a tile starts from may, -/
instance goT_storable (d : Dev nD) (c : Fin τ.nSC) (i : Fin τ.nSub) : BI.Storable (upEmb : UEmb _ 𝕄) (goT tb m d c i) := by
  unfold goT pAt; infer_instance
/-- and what it brings back may. -/
instance tdT_storable (d : Dev nD) (c : Fin τ.nSC) (i : Fin τ.nSub) : BI.Storable (upEmb : UEmb _ 𝕄) (tdT tb m d c i) := by
  unfold tdT; infer_instance

/-! ## A tile's own buffers and semaphores -/

section Tile

variable (d : Dev nD) (L : grid1.Coords)

/-- A DMA semaphore of the tile. -/
abbrev dcell (L : grid1.Coords) (s : DmaSems sig S_) : GSem nD τ sig := (V d (cV L) (jV L), .dma s.sem)

/-- It is among the tile's own semaphores. -/
theorem dcell_mem (s : DmaSems sig S_) (h : (SemLoc.dma s.sem : SemLoc sig).isScoped .scVector = true) : dcell d L s ∈ ownCells (V d (cV L) (jV L)) :=
  (mem_ownCells (g := dcell d L s)).mpr ⟨rfl, h⟩

/-- Two of them are two. -/
theorem dcell_ne (s s' : DmaSems sig S_) (h : s.sem ≠ s'.sem) : dcell d L s ≠ dcell d L s' := fun e => h (by
  have := congrArg Prod.snd e
  exact SemLoc.dma.inj this)

/-- The tile's own semaphores at zero: the two of the kernel's scratch, the three of its blocking copies, and the
    rest. -/
theorem ownSems0_V :
    (ownSems0 (V d (cV L) (jV L)) : sProp 𝕄)
      = iprop(semVal (dcell d L cc1_scratch4) 0 ∗ semVal (dcell d L cc1_scratch5) 0 ∗ semVal (dcell d L cc1_scoped0) 0
          ∗ semVal (dcell d L cc1_scoped1) 0 ∗ semVal (dcell d L cc1_scoped2) 0
          ∗ bigSep ((((((ownCells (V d (cV L) (jV L))).erase (dcell d L cc1_scratch4)).erase (dcell d L cc1_scratch5)).erase (dcell d L cc1_scoped0)).erase
              (dcell d L cc1_scoped1)).erase (dcell d L cc1_scoped2)) fun g => semVal g 0) := by
  have ne := dcell_ne d L
  have me := dcell_mem d L
  unfold SparseCore.Cfg.ownSems0
  rw [SparseCore.bigSep_erase' (me cc1_scratch4 (by decide)),
    SparseCore.bigSep_erase' (Finset.mem_erase.mpr ⟨ne cc1_scratch5 cc1_scratch4 (by decide), me cc1_scratch5 (by decide)⟩),
    SparseCore.bigSep_erase' (Finset.mem_erase.mpr ⟨ne cc1_scoped0 cc1_scratch5 (by decide), Finset.mem_erase.mpr ⟨ne cc1_scoped0 cc1_scratch4 (by decide),
      me cc1_scoped0 (by decide)⟩⟩),
    SparseCore.bigSep_erase' (Finset.mem_erase.mpr ⟨ne cc1_scoped1 cc1_scoped0 (by decide), Finset.mem_erase.mpr ⟨ne cc1_scoped1 cc1_scratch5 (by decide),
      Finset.mem_erase.mpr ⟨ne cc1_scoped1 cc1_scratch4 (by decide), me cc1_scoped1 (by decide)⟩⟩⟩),
    SparseCore.bigSep_erase' (Finset.mem_erase.mpr ⟨ne cc1_scoped2 cc1_scoped1 (by decide), Finset.mem_erase.mpr ⟨ne cc1_scoped2 cc1_scoped0 (by decide),
      Finset.mem_erase.mpr ⟨ne cc1_scoped2 cc1_scratch5 (by decide), Finset.mem_erase.mpr ⟨ne cc1_scoped2 cc1_scratch4 (by decide), me cc1_scoped2 (by decide)⟩⟩⟩⟩)]

/-- A buffer as the tile names it. -/
abbrev vref (L : grid1.Coords) (b : Ref sig .scVector) : DevRef τ sig := (Proc.scVector (cV L) (jV L)).devRef b

/-- The tile's own buffers: its row numbers, its table, its sums, and the rest. -/
theorem ownBufs_V :
    (ownBufs (V d (cV L) (jV L)) : sProp 𝕄)
      = iprop((∃ f, iLoc d (cV L) (jV L) ↦{fullShare} f) ∗ (∃ f, tLoc d (cV L) (jV L) ↦{fullShare} f) ∗ (∃ f, resLoc d (cV L) (jV L) ↦{fullShare} f)
          ∗ bigSep ((((ownRefs (τ := τ) (.scVector (cV L) (jV L))).erase (vref L cc1_scratch0)).erase (vref L cc1_scratch1)).erase (vref L cc1_scratch3))
              fun b => iprop(∃ f, ((d, b) : Loc nD τ sig) ↦{fullShare} f)) := by
  have me : ∀ b : Ref sig .scVector, (vref L b).owner = .proc (Proc.scVector (cV L) (jV L)) → vref L b ∈ ownRefs (τ := τ) (.scVector (cV L) (jV L)) := fun b h =>
    SparseCore.Cfg.mem_ownRefs_of_owner (p := Proc.scVector (cV L) (jV L)) (b := vref L b) h
  have ne : ∀ {a b : Ref sig .scVector}, a ≠ b → vref L a ≠ vref L b := fun h e => h (Proc.devRef_injective _ e)
  unfold SparseCore.Cfg.ownBufs
  rw [SparseCore.bigSep_erase' (me cc1_scratch0 rfl),
    SparseCore.bigSep_erase' (Finset.mem_erase.mpr ⟨ne (by decide), me cc1_scratch1 rfl⟩),
    SparseCore.bigSep_erase' (Finset.mem_erase.mpr ⟨ne (by decide), Finset.mem_erase.mpr ⟨ne (by decide), me cc1_scratch3 rfl⟩⟩)]

/-! ## The run -/

/-- Two things that only tile 0 has. -/
theorem lead_sep (i : Fin τ.nSub) (R Q : sProp 𝕄) : lead i iprop(R ∗ Q) = iprop(lead i R ∗ lead i Q) := by
  unfold lead; split
  · rfl
  · exact (equiv_iff.mp BI.emp_sep).symm

/-- Tile 0's copy of a half of the table before a barrier, as every tile goes through it. -/
theorem wp_fill_lead {α : Type} {c : Fin τ.nSC} {i : Fin τ.nSub} {b : Prop} [Decidable b] (hb : b ↔ i.val = 0) (k : Fin 3)
    (off : Fin 3 → ℕ) (h : ∀ a, off a + S1x1x50048.size a ≤ S1x1x100096.size a) (sm : DmaSems sig S_)
    (hh : ∀ f, Tabled tb d f → Holds tb d k ((pHalf off h).view.read (Elt F) f))
    (O : CellTallies nD τ sig (HIx 3)) (W : Waits sig (HIx 3))
    {p : Prog (TpuEff nD τ sig (Elt F) Λ₀ (.scVector c i)) α} {Ψ : α → sProp 𝕄} :
    iprop(lead i (pAt tb d c) ∗ lead i (iprop(∃ g : Buf (Elt F) (shLoc d c), shLoc d c ↦{fullShare} g)) ∗ semVal (V d c i, SemLoc.dma sm.sem) 0
        ∗ owes (V d c i) O W ∗ Transfers.MayWaits (V d c i) (default : HIx 3) O)
      ⊢ iprop((iprop(lead i (pAt tb d c) ∗ lead i (iprop(∃ f : Buf (Elt F) (shLoc d c), ⌜Holds tb d k f⌝ ∗ shLoc d c ↦{fullShare} f))
            ∗ semVal (V d c i, SemLoc.dma sm.sem) 0 ∗ ∃ W', ⌜∀ p ∈ W', p ∈ W ∨ p.2 = none⌝ ∗ owes (V d c i) O W')
          -∗ wp frame (wpE (defs₀ (F := F)) 𝒱₀ (V d c i) none) Set.univ p Ψ)
        -∗ wp frame (wpE (defs₀ (F := F)) 𝒱₀ (V d c i) none) Set.univ
          (if _h : b then (do
              Prog.lift (.enqueueDma (pHalf off h) (.here shV) (.dma sm.sem) ((View.wordExact_bits rfl).reshape _ _) (Memref.isWhole_whole cc1_scratch2).wordExact ⟨Or.inl rfl, trivial⟩)
              Prog.lift (.waitDma2 sm.sem (pHalf off h) shV ((View.wordExact_bits rfl).reshape _ _) (Memref.isWhole_whole cc1_scratch2).wordExact)
              p) else p) Ψ) := by
  by_cases hc : b
  · rw [dif_pos hc]
    simp only [lead_zero (hb.mp hc)]
    unfold pAt
    iintro ⟨⟨%f, %hf, Hp⟩, ⟨%g, Hsh⟩, Hsem, HO, Hmw⟩ Hk
    iapply (wp_fill d c i off h sm (shareP c) f g O W) $$ [Hp Hsh Hsem HO Hmw]
    · isplitl [Hp]; · iexact Hp
      isplitl [Hsh]; · iexact Hsh
      isplitl [Hsem]; · iexact Hsem
      isplitl [HO] <;> iassumption
    iintro ⟨Hp, Hsh, Hsem, HW⟩
    iapply Hk
    isplitl [Hp]
    · iexists f
      isplitr; · ipureintro; exact hf
      iexact Hp
    isplitl [Hsh]
    · iexists _
      isplitr; swap; · iexact Hsh
      ipureintro; exact hh f hf
    isplitl [Hsem] <;> iassumption
  · rw [dif_neg hc]
    simp only [lead_pos (fun e => hc (hb.mpr e))]
    iintro ⟨Hp, Hsh, Hsem, HO, -⟩ Hk
    iapply Hk
    isplitl [Hp]; · iexact Hp
    isplitl [Hsh]; · iexact Hsh
    isplitl [Hsem]; · iexact Hsem
    iexists W
    isplitr; · ipureintro; exact fun p hp => .inl hp
    iexact HO

/-- The kernel's test of the tile's number holds of tile 0 alone. -/
theorem tile_zero : ∀ j : Fin 16, Scalar.cmpi .ne (Scalar.extui (Scalar.cmpi .eq (BitVec.ofNat 32 j.val) (0#32 : BitVec 32)) : BitVec 32) (0#32 : BitVec 32) = 1#1 ↔ j.val = 0 := by
  decide

/-- The tile's row numbers on their way. -/
def fetching : sProp 𝕄 :=
  Transfers.Flight countersEmb (V d (cV L) (jV L)) (SemLoc.dma (sig := sig) cc1_scratch4.sem) (default : HIx 3) 819200
    (iprop((iV.view.loc (V d (cV L) (jV L)) ↦{fullShare} (xSl L).view.read (Elt F) (m (xLoc d)))
      ∗ (xSl L).view.loc (V d (cV L) (jV L)) ↦[(xSl L).view.set]{fullShare} m (xLoc d)))

/-- The copy of the tile's row numbers set out. -/
theorem wp_fetch {α : Type} (f : Buf (Elt F) (iLoc d (cV L) (jV L))) (O : CellTallies nD τ sig (HIx 3)) (W : Waits sig (HIx 3))
    {p : PUnit → Prog (TpuEff nD τ sig (Elt F) Λ₀ (.scVector (cV L) (jV L))) α} {Ψ : α → sProp 𝕄} :
    iprop(xMine m d (cV L) (jV L) ∗ (iLoc d (cV L) (jV L) ↦{fullShare} f) ∗ semVal (dcell d L cc1_scratch4) 0 ∗ owes (V d (cV L) (jV L)) O W)
      ⊢ iprop((iprop(fetching m d L ∗ owes (V d (cV L) (jV L)) O W) -∗ wp frame (wpE (defs₀ (F := F)) 𝒱₀ (V d (cV L) (jV L)) none) Set.univ (p ⟨⟩) Ψ)
        -∗ wp frame (wpE (defs₀ (F := F)) 𝒱₀ (V d (cV L) (jV L)) none) Set.univ
          (Prog.lift (.enqueueDma (xSl L) (.here iV) (.dma cc1_scratch4.sem) (View.wordExact_bits rfl) (Memref.isWhole_whole cc1_scratch0).wordExact ⟨Or.inl rfl, trivial⟩) >>= p) Ψ) := by
  iintro ⟨Hx, Hi, Hs, HO⟩ Hk
  ihave Hx := (Entails.of_eq (pts_x (F := F) d L _).symm) $$ Hx
  ihave Hi := (show (iLoc d (cV L) (jV L) ↦{fullShare} f) ⊢ (iV.view.loc (V d (cV L) (jV L)) ↦{fullShare} f : sProp 𝕄) from Entails.refl _) $$ Hi
  sl_exec
  unfold fetching
  rw [show iV.view.write (Elt F) f (wp_fetch.sl.dma0 m d L) Finset.univ = (xSl L).view.read (Elt F) (m (xLoc d)) from View.write_whole_univ _ _ _]
  iapply Hk
  isplitl [Hs]; · iexact Hs
  iexact HO

/-- The wait for it: the tile has its row numbers. -/
theorem wp_fetched {α : Type} (O : CellTallies nD τ sig (HIx 3)) (W : Waits sig (HIx 3))
    {p : PUnit → Prog (TpuEff nD τ sig (Elt F) Λ₀ (.scVector (cV L) (jV L))) α} {Ψ : α → sProp 𝕄} :
    iprop(fetching m d L ∗ owes (V d (cV L) (jV L)) O W ∗ Transfers.MayWaits (V d (cV L) (jV L)) (default : HIx 3) O)
      ⊢ iprop((iprop(xMine m d (cV L) (jV L) ∗ (iLoc d (cV L) (jV L) ↦{fullShare} (xSl L).view.read (Elt F) (m (xLoc d))) ∗ semVal (dcell d L cc1_scratch4) 0
            ∗ ∃ W', ⌜∀ p ∈ W', p ∈ W ∨ p.2 = none⌝ ∗ owes (V d (cV L) (jV L)) O W')
          -∗ wp frame (wpE (defs₀ (F := F)) 𝒱₀ (V d (cV L) (jV L)) none) Set.univ (p ⟨⟩) Ψ)
        -∗ wp frame (wpE (defs₀ (F := F)) 𝒱₀ (V d (cV L) (jV L)) none) Set.univ
          (Prog.lift (.waitDma2 cc1_scratch4.sem (xSl L) iV (View.wordExact_bits rfl) (Memref.isWhole_whole cc1_scratch0).wordExact) >>= p) Ψ) := by
  unfold fetching
  iintro ⟨Hs, HO, Hmw⟩ Hk
  sl_exec
  iapply Hk
  isplitl [Hs_src]; · iapply (Entails.of_eq (pts_x (F := F) d L _)); iexact Hs_src
  isplitl [Hs_dst]; · iexact Hs_dst
  isplitl [Hs]; · iexact Hs
  iexists _; isplitr
  swap; · iexact HO
  ipureintro; intro p hp
  rcases Finset.mem_insert.mp hp with hp | hp; · exact .inr (hp ▸ rfl)
  exact .inl hp

/-- Before the first barrier a tile has seen no arrival. -/
theorem seen_start (c : Fin τ.nSC) (i : Fin τ.nSub) : (atPos EB (bcell d c i) 0 ∅ 0 : sProp 𝕄) ⊢ seen d c i 0 := by
  unfold seen
  iintro H
  iexists ∅
  isplitl [H]; · iexact H
  rw [bigSep_empty]
  exact Entails.refl _

/-- No barrier is before barrier 0, -/
theorem past_zero (c : Fin τ.nSC) : iprop(emp) ⊢ (past d c 0 : sProp 𝕄) := by
  rw [show past d c 0 = (iprop(emp) : sProp 𝕄) from by
    rw [past, show (Finset.univ.filter fun k' : Fin 3 => k' < 0) = ∅ by decide, bigSep_empty]; rfl]
/-- barrier 0 is before barrier 1, -/
theorem past_one (c : Fin τ.nSC) : full d c 0 ⊢ (past d c 1 : sProp 𝕄) := by
  unfold past
  rw [show (Finset.univ.filter fun k' : Fin 3 => k' < 1) = {0} by decide, bigSep_singleton]
/-- and barriers 0 and 1 are before barrier 2. -/
theorem past_two (c : Fin τ.nSC) : iprop(full d c 0 ∗ full d c 1) ⊢ (past d c 2 : sProp 𝕄) := by
  unfold past
  rw [show (Finset.univ.filter fun k' : Fin 3 => k' < 2) = insert 0 {1} by decide, SparseCore.bigSep_insert' (by decide), bigSep_singleton]

/-- What is owed for a later barrier is above this one's units. -/
theorem above_add (c : Fin τ.nSC) {O : CellTallies nD τ sig (HIx 3)} {n : ℕ} (k : Fin 3) (hk : n < 8 * k.val + 3)
    (hO : ∀ g ι, 0 < O g ι → n < (K (F := F)).lev g ι) (g : GSem nD τ sig) (ι : HIx 3) (h : 0 < (O + oxB d c k) g ι) : n < (K (F := F)).lev g ι := by
  rw [Pi.add_apply, Finsupp.add_apply] at h
  rcases Nat.add_pos_iff_pos_or_pos.mp h with h | h
  · exact hO g ι h
  · obtain ⟨j, rfl, rfl⟩ := oxB_apply_pos h
    rw [lev_bcell]; exact hk

set_option maxHeartbeats 4000000 in
/-- The first part of a tile's run, to the end of the second barrier: the row numbers are on their way, and the first
    half of the table is in the tile's own. -/
theorem wp_part1 (O : CellTallies nD τ sig (HIx 3)) (W : Waits sig (HIx 3)) (hO : ∀ g, O g none = 0)
    (hOlev : ∀ g ι, 0 < O g ι → 12 ≤ (K (F := F)).lev g ι) (fi : Buf (Elt F) (iLoc d (cV L) (jV L))) (ft : Buf (Elt F) (tLoc d (cV L) (jV L)))
    {Q : BitVec 1 → sProp 𝕄} :
    iprop(levAts (K (F := F)).L (K (F := F)).lev ∗ (known tb d (cV L) ∗ seen d (cV L) (jV L) 0 ∗ ticket d (cV L) (jV L) 0 ∗ ticket d (cV L) (jV L) 1)
        ∗ (xMine m d (cV L) (jV L) ∗ lead (jV L) (pAt tb d (cV L)) ∗ lead (jV L) (iprop(∃ g : Buf (Elt F) (shLoc d (cV L)), shLoc d (cV L) ↦{fullShare} g)))
        ∗ ((iLoc d (cV L) (jV L) ↦{fullShare} fi) ∗ tLoc d (cV L) (jV L) ↦{fullShare} ft)
        ∗ (semVal (dcell d L cc1_scratch4) 0 ∗ semVal (dcell d L cc1_scratch5) 0 ∗ semVal (dcell d L cc1_scoped0) 0)
        ∗ owes (V d (cV L) (jV L)) (O + oxB d (cV L) 1 + oxB d (cV L) 0) W)
      ⊢ iprop((iprop(fetching m d L ∗ seen d (cV L) (jV L) 2 ∗ full d (cV L) 0 ∗ full d (cV L) 1
            ∗ lead (jV L) (pAt tb d (cV L)) ∗ lead (jV L) (iprop(∃ g : Buf (Elt F) (shLoc d (cV L)), shLoc d (cV L) ↦{fullShare} g))
            ∗ (∃ g, ⌜∀ k : S100096.Idx, (k 0).val < 50048 → g k = tb d (k 0).val⌝ ∗ tLoc d (cV L) (jV L) ↦{fullShare} g)
            ∗ semVal (dcell d L cc1_scratch5) 0 ∗ semVal (dcell d L cc1_scoped0) 0
            ∗ ∃ W', ⌜∀ p ∈ W', p ∈ W ∨ p.2 = none ∨ ∃ j : Fin 3, p.2 = some j⌝ ∗ owes (V d (cV L) (jV L)) O W')
          -∗ Q (Scalar.cmpi .eq (BitVec.ofNat 32 (L 1).val) 0#32))
        -∗ wp frame (wpE (defs₀ (F := F)) 𝒱₀ (V d (cV L) (jV L)) none) Set.univ
          (k1_part1 L xV (Memref.isWhole_whole _) pV (Memref.isWhole_whole _) oV (Memref.isWhole_whole _) iV (Memref.isWhole_whole _)
              tV (Memref.isWhole_whole _) shV (Memref.isWhole_whole _) rV (Memref.isWhole_whole _) cc1_scratch4 cc1_scratch5 cc1_scoped0 cc1_scoped1
              cc1_scoped2) Q) := by
  rw [k1_part1_eq_skeleton]
  unfold k1_part1_skel
  iintro ⟨#Hlv, ⟨#Hkn, Hat, Ht0, Ht1⟩, ⟨Hx, Hp, Hsh⟩, ⟨Hi, Ht⟩, ⟨HsA, HsB, HsC⟩, HO⟩ Hk
  have hO1 : ∀ g, (O + oxB d (cV L) 1) g none = 0 := fun g => by rw [Pi.add_apply, Finsupp.add_apply, hO g, oxB_none]
  have hO0 : ∀ g, (O + oxB d (cV L) 1 + oxB d (cV L) 0) g none = 0 := fun g => by rw [Pi.add_apply, Finsupp.add_apply, hO1 g, oxB_none]
  ihave Hmw0 := (show levAts (K (F := F)).L (K (F := F)).lev ⊢ Transfers.MayWaits (V d (cV L) (jV L)) (default : HIx 3) (O + oxB d (cV L) 1 + oxB d (cV L) 0) from
    (K (F := F)).mayWaits_none (thr := V d (cV L) (jV L)) hO0) $$ Hlv
  ihave Hmw1 := (show levAts (K (F := F)).L (K (F := F)).lev ⊢ Transfers.MayWaits (V d (cV L) (jV L)) (default : HIx 3) (O + oxB d (cV L) 1) from
    (K (F := F)).mayWaits_none (thr := V d (cV L) (jV L)) hO1) $$ Hlv
  -- the row numbers set out
  iapply (wp_fetch m d L fi _ W) $$ [Hx Hi HsA HO]
  · isplitl [Hx]; · iexact Hx
    isplitl [Hi]; · iexact Hi
    isplitl [HsA] <;> iassumption
  iintro ⟨Hfl, HO⟩
  -- tile 0 fills the shared table with the first half
  iapply (wp_fill_lead tb d (i := jV L) (show _ ↔ (jV L).val = 0 from tile_zero (L 1)) 0 ![0, 0, 0] inb_S1x1x100096_S1x1x50048_0_0_0 cc1_scoped0
    (fun f hf => holds_fst tb d _ f hf) (O + oxB d (cV L) 1 + oxB d (cV L) 0) W) $$ [Hp Hsh HsC HO Hmw0]
  · isplitl [Hp]; · iexact Hp
    isplitl [Hsh]; · iexact Hsh
    isplitl [HsC]; · iexact HsC
    isplitl [HO] <;> iassumption
  iintro ⟨Hp, Hsh, HsC, %W₁, %hW₁, HO⟩
  -- barrier 0
  ihave Hout := (outgo_of_lead tb d (cV L) (jV L) 0 (by decide)) $$ Hsh
  iapply (wp_pass tb d (cV L) (jV L) 0 (O + oxB d (cV L) 1) W₁ (above_add d (cV L) 1 (by decide) fun g ι h => lt_of_lt_of_le (by decide) (hOlev g ι h))) $$ [HO Ht0 Hat Hout]
  · isplitr; · iexact Hlv
    isplitr; · iexact Hkn
    isplitr; · iapply (past_zero d (cV L)); iempintro
    isplitl [HO]; · iexact HO
    isplitl [Ht0]; · iexact Ht0
    isplitl [Hat]; · iexact Hat
    iexact Hout
  iintro ⟨HO, Hat, #Hf0, Hin⟩
  -- everyone copies it to its own table
  ihave Hin := (income_own tb d (cV L) (jV L) 0 (by decide)) $$ Hin
  icases Hin with ⟨%f, %hf, Hsh⟩
  iapply (wp_copies d (cV L) (jV L) 0 ![0] ![25024] rfl rfl inb_S100096_S25024_0 inb_S100096_S25024_25024 (shareOf (jV L)) f ft (O + oxB d (cV L) 1) _
    trivial) $$ [Hsh Ht HsB HO Hmw1]
  · isplitl [Hsh]; · iexact Hsh
    isplitl [Ht]; · iexact Ht
    isplitl [HsB]; · iexact HsB
    isplitl [HO] <;> iassumption
  iintro ⟨Hsh, ⟨%g, %hg, Ht⟩, HsB, %W₂, %hW₂, HO⟩
  -- barrier 1
  ihave Hout := (outgo_own tb d (cV L) (jV L) f) $$ Hsh
  iapply (wp_pass tb d (cV L) (jV L) 1 O W₂ (fun g ι h => lt_of_lt_of_le (by decide) (hOlev g ι h))) $$ [HO Ht1 Hat Hout]
  · isplitr; · iexact Hlv
    isplitr; · iexact Hkn
    isplitr; · iapply (past_one d (cV L)); iexact Hf0
    isplitl [HO]; · iexact HO
    isplitl [Ht1]; · iexact Ht1
    isplitl [Hat]; · iexact Hat
    iexact Hout
  iintro ⟨HO, Hat, #Hf1, Hin⟩
  ihave Hsh := (income_lead tb d (cV L) (jV L)) $$ Hin
  simp only [wp_pure]
  imodintro
  iapply Hk
  isplitl [Hfl]; · iexact Hfl
  isplitl [Hat]; · iexact Hat
  isplitr; · iexact Hf0
  isplitr; · iexact Hf1
  isplitl [Hp]; · iexact Hp
  isplitl [Hsh]; · iexact Hsh
  isplitl [Ht]
  · iexists g
    isplitr; swap; · iexact Ht
    ipureintro; intro k hk
    refine (hg.1 k (ix1 (⟨(k 0).val, hk⟩ : Fin 50048)) (Nat.zero_add _).symm).trans (hf _)
  isplitl [HsB]; · iexact HsB
  isplitl [HsC]; · iexact HsC
  iexists _; isplitr
  swap; · iexact HO
  ipureintro; intro p hp
  rcases Finset.mem_union.mp hp with hp | hp
  · rcases hW₂ p hp with hp | hp; swap; · exact .inr (.inl hp)
    rcases Finset.mem_union.mp hp with hp | hp
    · rcases hW₁ p hp with hp | hp
      · exact .inl hp
      · exact .inr (.inl hp)
    · exact .inr (.inr ⟨0, by rw [Finset.mem_singleton.mp hp]⟩)
  · exact .inr (.inr ⟨1, by rw [Finset.mem_singleton.mp hp]⟩)

/-- A table whose halves are as the copies leave them holds every row's word. -/
theorem filled_of (g g' : S100096.Idx → Elt F .f32) (f : S50048.Idx → Elt F .f32) (hg : ∀ k : S100096.Idx, (k 0).val < 50048 → g k = tb d (k 0).val)
    (hf : Holds tb d 2 f) (h₁ : ∀ (k : S100096.Idx) (j : S50048.Idx), (k 0).val = 50048 + (j 0).val → g' k = f j)
    (h₂ : ∀ k : S100096.Idx, (k 0).val < 50048 → g' k = g k) : Filled tb d g' := by
  intro k hk
  by_cases h : (k 0).val < 50048
  · exact (h₂ k h).trans (hg k h)
  · have e : 50048 + ((k 0).val - 50048) = (k 0).val := by omega
    have hj := h₁ k (ix1 (⟨(k 0).val - 50048, by omega⟩ : Fin 50048)) e.symm
    rw [hj, hf _ (by show 50048 + ((k 0).val - 50048) < 100000; omega)]
    exact congrArg (tb d) e

/-- What the output is to hold at the tile's `j`-th column. -/
abbrev resVal (j : ℕ) : Elt F .f32 := sumTo tb m d (128 * (tIx (cV L) (jV L)).val + j) 200

set_option maxHeartbeats 4000000 in
/-- The run's second part: the second half, the row numbers, the loop and the first sixteen sums. -/
theorem wp_part2 (hlt : ∀ l b, rowAt m d l b < 100000) (O : CellTallies nD τ sig (HIx 3)) (W : Waits sig (HIx 3)) (hO : ∀ g, O g none = 0)
    (hOlev : ∀ g ι, 0 < O g ι → 22 ≤ (K (F := F)).lev g ι)
    {Q : (Σ' (_ : FVec F S16 .f32) (_ : FVec F S16 .f32) (_ : FVec F S16 .f32) (_ : FVec F S16 .f32) (_ : FVec F S16 .f32) (_ : FVec F S16 .f32), FVec F S16 .f32) → sProp 𝕄} :
    iprop(levAts (K (F := F)).L (K (F := F)).lev ∗ (known tb d (cV L) ∗ seen d (cV L) (jV L) 2 ∗ full d (cV L) 0 ∗ full d (cV L) 1 ∗ ticket d (cV L) (jV L) 2)
        ∗ (fetching m d L ∗ lead (jV L) (pAt tb d (cV L)) ∗ lead (jV L) (iprop(∃ g : Buf (Elt F) (shLoc d (cV L)), shLoc d (cV L) ↦{fullShare} g)))
        ∗ ((∃ g, ⌜∀ k : S100096.Idx, (k 0).val < 50048 → g k = tb d (k 0).val⌝ ∗ tLoc d (cV L) (jV L) ↦{fullShare} g)
          ∗ ∃ r, resLoc d (cV L) (jV L) ↦{fullShare} r)
        ∗ (semVal (dcell d L cc1_scratch5) 0 ∗ semVal (dcell d L cc1_scoped1) 0)
        ∗ owes (V d (cV L) (jV L)) (O + oxB d (cV L) 2) W)
      ⊢ iprop((iprop((xMine m d (cV L) (jV L) ∗ handed tb ((d, cV L), 1, jV L) ∗ semVal (bcell d (cV L) (jV L)) 0)
            ∗ ((∃ f, iLoc d (cV L) (jV L) ↦{fullShare} f) ∗ (∃ g, tLoc d (cV L) (jV L) ↦{fullShare} g)
              ∗ ∃ r, ⌜Written (resVal tb m d L) 16 r⌝ ∗ resLoc d (cV L) (jV L) ↦{fullShare} r)
            ∗ (semVal (dcell d L cc1_scratch4) 0 ∗ semVal (dcell d L cc1_scratch5) 0 ∗ semVal (dcell d L cc1_scoped1) 0)
            ∗ ∃ W', ⌜∀ p ∈ W', p ∈ W ∨ p.2 = none ∨ ∃ j : Fin 3, p.2 = some j⌝ ∗ owes (V d (cV L) (jV L)) O W')
          -∗ Q ⟨sums tb m d (128 * (tIx (cV L) (jV L)).val + 16) 200, sums tb m d (128 * (tIx (cV L) (jV L)).val + 32) 200,
              sums tb m d (128 * (tIx (cV L) (jV L)).val + 48) 200, sums tb m d (128 * (tIx (cV L) (jV L)).val + 64) 200,
              sums tb m d (128 * (tIx (cV L) (jV L)).val + 80) 200, sums tb m d (128 * (tIx (cV L) (jV L)).val + 96) 200,
              sums tb m d (128 * (tIx (cV L) (jV L)).val + 112) 200⟩)
        -∗ wp frame (wpE (defs₀ (F := F)) 𝒱₀ (V d (cV L) (jV L)) none) Set.univ
          (k1_part2 L xV (Memref.isWhole_whole _) pV (Memref.isWhole_whole _) oV (Memref.isWhole_whole _) iV (Memref.isWhole_whole _)
              tV (Memref.isWhole_whole _) shV (Memref.isWhole_whole _) rV (Memref.isWhole_whole _) cc1_scratch4 cc1_scratch5 cc1_scoped0 cc1_scoped1
              cc1_scoped2 (Scalar.cmpi .eq (BitVec.ofNat 32 (L 1).val) 0#32)) Q) := by
  rw [k1_part2_eq_skeleton]
  unfold k1_part2_skel
  have hO2 : ∀ g, (O + oxB d (cV L) 2) g none = 0 := fun g => by rw [Pi.add_apply, Finsupp.add_apply, hO g, oxB_none]
  iintro ⟨#Hlv, ⟨#Hkn, Hat, #Hf0, #Hf1, Ht2⟩, ⟨Hfl, Hp, Hsh⟩, ⟨⟨%g, %hg, Ht⟩, ⟨%r, Hr⟩⟩, ⟨HsB, HsD⟩, HO⟩ Hk
  ihave #Hmw2 := (show levAts (K (F := F)).L (K (F := F)).lev ⊢ Transfers.MayWaits (V d (cV L) (jV L)) (default : HIx 3) (O + oxB d (cV L) 2) from
    (K (F := F)).mayWaits_none (thr := V d (cV L) (jV L)) hO2) $$ Hlv
  ihave #Hmw := (show levAts (K (F := F)).L (K (F := F)).lev ⊢ Transfers.MayWaits (V d (cV L) (jV L)) (default : HIx 3) O from
    (K (F := F)).mayWaits_none (thr := V d (cV L) (jV L)) hO) $$ Hlv
  -- tile 0 fills the shared table with the second half
  iapply (wp_fill_lead tb d (i := jV L) (show _ ↔ (jV L).val = 0 from tile_zero (L 1)) 2 ![0, 0, 50048] inb_S1x1x100096_S1x1x50048_0_0_50048 cc1_scoped1
    (fun f hf => holds_snd tb d _ f hf) (O + oxB d (cV L) 2) W) $$ [Hp Hsh HsD HO Hmw2]
  · isplitl [Hp]; · iexact Hp
    isplitl [Hsh]; · iexact Hsh
    isplitl [HsD]; · iexact HsD
    isplitl [HO] <;> iassumption
  iintro ⟨Hp, Hsh, HsD, %W₁, %hW₁, HO⟩
  -- barrier 2
  ihave Hout := (outgo_of_lead tb d (cV L) (jV L) 2 (by decide)) $$ Hsh
  iapply (wp_pass_last tb d (cV L) (jV L) O W₁ (fun g ι h => lt_of_lt_of_le (by decide) (hOlev g ι h))) $$ [HO Ht2 Hat Hout]
  · isplitr; · iexact Hlv
    isplitr; · iexact Hkn
    isplitr
    · iapply (past_two d (cV L))
      isplitr; · iexact Hf0
      iexact Hf1
    isplitl [HO]; · iexact HO
    isplitl [Ht2]; · iexact Ht2
    isplitl [Hat]; · iexact Hat
    iexact Hout
  iintro ⟨HO, Hbar, Hin⟩
  -- everyone copies it to its own table
  ihave Hin := (income_own tb d (cV L) (jV L) 2 (by decide)) $$ Hin
  icases Hin with ⟨%f, %hf, Hsh⟩
  iapply (wp_copies d (cV L) (jV L) 50048 ![50048] ![75072] rfl rfl inb_S100096_S25024_50048 inb_S100096_S25024_75072 (shareOf (jV L)) f g O _
    trivial) $$ [Hsh Ht HsB HO Hmw]
  · isplitl [Hsh]; · iexact Hsh
    isplitl [Ht]; · iexact Ht
    isplitl [HsB]; · iexact HsB
    isplitl [HO] <;> iassumption
  iintro ⟨Hsh, ⟨%g', %hg', Ht⟩, HsB, %W₂, %hW₂, HO⟩
  -- the row numbers have come
  iapply (wp_fetched m d L O W₂) $$ [Hfl HO Hmw]
  · isplitl [Hfl]; · iexact Hfl
    isplitl [HO] <;> iassumption
  iintro ⟨Hx, Hi, HsA, %W₃, %hW₃, HO⟩
  -- the sums
  iapply (wp_sums tb m d L (128 * (tIx (cV L) (jV L)).val) _ (fetched_read m d L) g' (filled_of tb d g g' f hg hf hg'.1 hg'.2) hlt _) $$ [Hi Ht]
  · isplitl [Hi] <;> iassumption
  iintro ⟨Hi, Ht⟩
  iapply (wp_look (Written (resVal tb m d L) 0) d (cV L) (jV L) ![0] inb_S128_S16_0) $$ [Hr]
  · iexists r
    isplitr; · ipureintro; exact fun _ h => absurd h (Nat.not_lt_zero _)
    iexact Hr
  iintro Hr
  iapply (wp_put (resVal tb m d L) d (cV L) (jV L) 0 ![0] rfl inb_S128_S16_0 (sums tb m d (128 * (tIx (cV L) (jV L)).val + 0) 200) (fun x => by
    show sumTo tb m d (128 * (tIx (cV L) (jV L)).val + 0 + (x 0).val) 200 = _; rw [Nat.add_assoc])) $$ Hr
  iintro Hr
  iapply (wp_look (Written (resVal tb m d L) (0 + 16)) d (cV L) (jV L) ![16] inb_S128_S16_16) $$ Hr
  iintro Hr
  simp only [wp_pure]
  imodintro
  iapply Hk
  isplitl [Hx Hsh Hbar]
  · isplitl [Hx]; · iexact Hx
    isplitr [Hbar]; swap; · iexact Hbar
    unfold handed
    iexists f
    isplitr; · ipureintro; exact trivial
    iexact Hsh
  isplitl [Hi Ht Hr]
  · isplitl [Hi]; · iexists _; iexact Hi
    isplitl [Ht]; · iexists _; iexact Ht
    iexact Hr
  isplitl [HsA HsB HsD]
  · isplitl [HsA]; · iexact HsA
    isplitl [HsB]; · iexact HsB
    iexact HsD
  iexists _; isplitr
  swap; · iexact HO
  ipureintro; intro p hp
  rcases hW₃ p hp with hp | hp; swap; · exact .inr (.inl hp)
  rcases hW₂ p hp with hp | hp; swap; · exact .inr (.inl hp)
  rcases Finset.mem_union.mp hp with hp | hp
  · rcases hW₁ p hp with hp | hp
    · exact .inl hp
    · exact .inr (.inl hp)
  · exact .inr (.inr ⟨2, by rw [Finset.mem_singleton.mp hp]⟩)

/-- Sixteen sums are sixteen words of the tile's result. -/
theorem sums_res (n : ℕ) (x : S16.Idx) : sums tb m d (128 * (tIx (cV L) (jV L)).val + n) 200 x = resVal tb m d L (n + (x 0).val) := by
  show sumTo tb m d (128 * (tIx (cV L) (jV L)).val + n + (x 0).val) 200 = _
  rw [Nat.add_assoc]

set_option maxHeartbeats 4000000 in
/-- A tile's run. -/
theorem tile_body (hlt : ∀ l b, rowAt m d l b < 100000) (O : CellTallies nD τ sig (HIx 3)) (W : Waits sig (HIx 3)) (hO : ∀ g, O g none = 0)
    (hOlev : ∀ g ι, 0 < O g ι → 22 ≤ (K (F := F)).lev g ι) :
    iprop(levAts (K (F := F)).L (K (F := F)).lev ∗ kit tb d (cV L) (jV L) ∗ goT tb m d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__sc_pool L xV (Memref.isWhole_whole _) pV (Memref.isWhole_whole _) oV (Memref.isWhole_whole _) iV (Memref.isWhole_whole _)
              tV (Memref.isWhole_whole _) shV (Memref.isWhole_whole _) rV (Memref.isWhole_whole _) cc1_scratch4 cc1_scratch5 cc1_scoped0 cc1_scoped1
              cc1_scoped2)
          fun _ => (iprop(tdT tb m d (cV L) (jV L) ∗ scopedBufs (V d (cV L) (jV L)) ∗ scopedSems0 (V d (cV L) (jV L))
            ∗ ∃ W', ⌜∀ p ∈ W', p ∈ W ∨ p.2 = none ∨ ∃ j : Fin 3, p.2 = some j⌝ ∗ owes (V d (cV L) (jV L)) O W') : sProp 𝕄) := by
  simp only [cc1__sc_pool_eq_skeleton]; unfold cc1__sc_pool_skel
  rw [(K (F := F)).scopedBufs_V facts d (cV L) (jV L), SparseCore.Cfg.scopedSems0_V (Val := Elt F) d (cV L) (jV L), ownSems0_V, ownBufs_V, wp_bind]
  unfold kit goT oxV
  rw [lead_sep, ← add_assoc, ← add_assoc]
  have hO2 : ∀ g, (O + oxB d (cV L) 2) g none = 0 := fun g => by rw [Pi.add_apply, Finsupp.add_apply, hO g, oxB_none]
  iintro ⟨#Hlv, ⟨#Hkn, Hat, Ht0, Ht1, Ht2⟩, ⟨Hx, Ho, Hp, Hsh⟩, ⟨⟨%fi, Hi⟩, ⟨%ft, Ht⟩, Hr, Hbufs⟩, ⟨HsA, HsB, HsC, HsD, HsE, Hsems⟩, HO⟩
  ihave Hat := (seen_start d (cV L) (jV L)) $$ Hat
  iapply (wp_part1 tb m d L (O + oxB d (cV L) 2) W hO2
    (above_add d (cV L) 2 (by decide) fun g ι h => lt_of_lt_of_le (by decide) (hOlev g ι h)) fi ft) $$ [Hat Ht0 Ht1 Hx Hp Hsh Hi Ht HsA HsB HsC HO]
  · isplitr; · iexact Hlv
    isplitl [Hat Ht0 Ht1]
    · isplitr; · iexact Hkn
      isplitl [Hat]; · iexact Hat
      isplitl [Ht0] <;> iassumption
    isplitl [Hx Hp Hsh]
    · isplitl [Hx]; · iexact Hx
      isplitl [Hp] <;> iassumption
    isplitl [Hi Ht]; · isplitl [Hi] <;> iassumption
    isplitl [HsA HsB HsC]
    · isplitl [HsA]; · iexact HsA
      isplitl [HsB] <;> iassumption
    iexact HO
  iintro ⟨Hfl, Hat, Hf0, Hf1, Hp, Hsh, Ht, HsB, HsC, %W₁, %hW₁, HO⟩
  rw [wp_bind]
  iapply (wp_part2 tb m d L hlt O W₁ hO hOlev) $$ [Hfl Hat Hf0 Hf1 Ht2 Hp Hsh Ht Hr HsB HsD HO]
  · isplitr; · iexact Hlv
    isplitl [Hat Hf0 Hf1 Ht2]
    · isplitr; · iexact Hkn
      isplitl [Hat]; · iexact Hat
      isplitl [Hf0]; · iexact Hf0
      isplitl [Hf1] <;> iassumption
    isplitl [Hfl Hp Hsh]
    · isplitl [Hfl]; · iexact Hfl
      isplitl [Hp] <;> iassumption
    isplitl [Ht Hr]; · isplitl [Ht] <;> iassumption
    isplitl [HsB HsD]; · isplitl [HsB] <;> iassumption
    iexact HO
  iintro ⟨⟨Hx, Hhand, Hbar⟩, ⟨Hi, Ht, Hr⟩, ⟨HsA, HsB, HsD⟩, %W₂, %hW₂, HO⟩
  iapply (wp_put (resVal tb m d L) d (cV L) (jV L) 16 ![16] rfl inb_S128_S16_16 _ (sums_res tb m d L 16)) $$ Hr
  iintro Hr
  iapply (wp_look (Written (resVal tb m d L) 32) d (cV L) (jV L) ![32] inb_S128_S16_32) $$ Hr
  iintro Hr
  iapply (wp_put (resVal tb m d L) d (cV L) (jV L) 32 ![32] rfl inb_S128_S16_32 _ (sums_res tb m d L 32)) $$ Hr
  iintro Hr
  iapply (wp_look (Written (resVal tb m d L) 48) d (cV L) (jV L) ![48] inb_S128_S16_48) $$ Hr
  iintro Hr
  iapply (wp_put (resVal tb m d L) d (cV L) (jV L) 48 ![48] rfl inb_S128_S16_48 _ (sums_res tb m d L 48)) $$ Hr
  iintro Hr
  iapply (wp_look (Written (resVal tb m d L) 64) d (cV L) (jV L) ![64] inb_S128_S16_64) $$ Hr
  iintro Hr
  iapply (wp_put (resVal tb m d L) d (cV L) (jV L) 64 ![64] rfl inb_S128_S16_64 _ (sums_res tb m d L 64)) $$ Hr
  iintro Hr
  iapply (wp_look (Written (resVal tb m d L) 80) d (cV L) (jV L) ![80] inb_S128_S16_80) $$ Hr
  iintro Hr
  iapply (wp_put (resVal tb m d L) d (cV L) (jV L) 80 ![80] rfl inb_S128_S16_80 _ (sums_res tb m d L 80)) $$ Hr
  iintro Hr
  iapply (wp_look (Written (resVal tb m d L) 96) d (cV L) (jV L) ![96] inb_S128_S16_96) $$ Hr
  iintro Hr
  iapply (wp_put (resVal tb m d L) d (cV L) (jV L) 96 ![96] rfl inb_S128_S16_96 _ (sums_res tb m d L 96)) $$ Hr
  iintro Hr
  iapply (wp_look (Written (resVal tb m d L) 112) d (cV L) (jV L) ![112] inb_S128_S16_112) $$ Hr
  iintro Hr
  iapply (wp_put (resVal tb m d L) d (cV L) (jV L) 112 ![112] rfl inb_S128_S16_112 _ (sums_res tb m d L 112)) $$ Hr
  iintro Hr
  ihave Hmw := (show levAts (K (F := F)).L (K (F := F)).lev ⊢ Transfers.MayWaits (V d (cV L) (jV L)) (default : HIx 3) O from
    (K (F := F)).mayWaits_none (thr := V d (cV L) (jV L)) hO) $$ Hlv
  iapply (wp_out tb m d L _ O W₂) $$ [Hr Ho HsE HO Hmw]
  · isplitl [Hr]; · iexact Hr
    isplitl [Ho]; · iexact Ho
    isplitl [HsE]; · iexact HsE
    isplitl [HO] <;> iassumption
  iintro ⟨Hr, Ho, HsE, %W₃, %hW₃, HO⟩
  unfold tdT
  isplitl [Hx Ho Hhand Hbar]
  · isplitl [Hx]; · iexact Hx
    isplitl [Ho]; · iexact Ho
    isplitl [Hhand] <;> iassumption
  isplitl [Hi Ht Hr Hbufs]
  · isplitl [Hi]; · iexact Hi
    isplitl [Ht]; · iexact Ht
    isplitl [Hr] <;> iassumption
  isplitl [HsA HsB HsC HsD HsE Hsems]
  · isplitl [HsA]; · iexact HsA
    isplitl [HsB]; · iexact HsB
    isplitl [HsC]; · iexact HsC
    isplitl [HsD]; · iexact HsD
    isplitl [HsE] <;> iassumption
  iexists W₃; isplitr
  swap; · iexact HO
  ipureintro; intro p hp
  rcases hW₃ p hp with hp | hp; swap; · exact .inr (.inl hp)
  rcases hW₂ p hp with hp | hp; swap; · exact .inr hp
  exact hW₁ p hp

end Tile

end Cert.Proof.Pool

end
-- ==== Proof.Deal.lean ====
/-
  The launch of the one call: what each SparseCore takes and brings back, and how its sequencer deals it to its tiles.
-/
module

public import proofs.«01_k».proof.Proof.Tile

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F] [Named F]

local notation "𝕄" => MT nD τ sig (HIx 3) (Elt F) ℕ UU ℕ

variable (tb : Tab F) (m : (ℓ : Loc nD τ sig) → Buf (Elt F) ℓ)

/-! ## What the handshakes carry -/

/-- A subcore of the call's mesh, as a tile of its SparseCore. -/
abbrev subOf (i : Fin ((K (F := F)).nSub 0)) : Fin τ.nSub := (K (F := F)).sub 0 i

/-- The barrier semaphores of a SparseCore's tiles, closed, at zero. -/
abbrev bars (d : Dev nD) (c : Fin τ.nSC) : sProp 𝕄 := bigSep Finset.univ fun i : Fin τ.nSub => semVal (bcell d c i) 0

/-- What a SparseCore takes: its tiles' columns of `x` and words of the output, and its share of `p`. -/
def stC (d : Dev nD) (c : Fin τ.nSC) : sProp 𝕄 :=
  iprop((bigSep Finset.univ fun i : Fin τ.nSub => xMine m d c i) ∗ (bigSep Finset.univ fun i : Fin τ.nSub => oMine d c i (m (oLoc d))) ∗ pAt tb d c)
/-- What it brings back. -/
def dnC (d : Dev nD) (c : Fin τ.nSC) : sProp 𝕄 :=
  iprop((bigSep Finset.univ fun i : Fin τ.nSub => xMine m d c i) ∗ (bigSep Finset.univ fun i : Fin τ.nSub => oMine d c i (outVal tb m d)) ∗ bars d c)

/-- What a SparseCore takes may stand in an invariant, -/
instance stC_storable (d : Dev nD) (c : Fin τ.nSC) : BI.Storable (upEmb : UEmb _ 𝕄) (stC tb m d c) := by unfold stC pAt; infer_instance
/-- and what it brings back may. -/
instance dnC_storable (d : Dev nD) (c : Fin τ.nSC) : BI.Storable (upEmb : UEmb _ 𝕄) (dnC tb m d c) := by unfold dnC; infer_instance

set_option backward.proofsInPublic true in
/-- The call: each SparseCore its part, each tile its part of that; each tile's proof starts with its kit and owes its
    arrivals at the three barriers. -/
def P : (K (F := F)).Pay (N := 3) (nD := nD) (Val := Elt F) (Name := ℕ) (U := UU) where
  st := fun q d c => match q with | 0 => stC tb m d (coreOf c)
  dn := fun q d c => match q with | 0 => dnC tb m d (coreOf c)
  go := fun q d c i => match q with | 0 => goT tb m d (coreOf c) (subOf i)
  td := fun q d c i => match q with | 0 => tdT tb m d (coreOf c) (subOf i)
  x := fun _ thr => match thr with
    | (d, .scVector c i) => kit tb d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      unfold oxV at h
      simp only [Pi.add_apply, Finsupp.add_apply] at h
      have hk : ∃ k : Fin 3, 0 < oxB d c k g ι := by
        rcases Nat.add_pos_iff_pos_or_pos.mp h with h | h
        · rcases Nat.add_pos_iff_pos_or_pos.mp h with h | h
          · exact ⟨2, h⟩
          · exact ⟨1, h⟩
        · exact ⟨0, h⟩
      obtain ⟨k, h⟩ := hk
      obtain ⟨j, rfl, rfl⟩ := oxB_apply_pos h
      rw [lev_bcell]
      fin_cases k <;> decide
  ox_tc := fun _ _ => rfl
  ox_sc := fun _ _ _ h => absurd rfl h
  ox_vc := by
    intro q d c i h
    obtain rfl : q = 0 := Subsingleton.elim _ _
    exact ⟨rfl, c.isLt, i.isLt⟩

/-- All that the handshakes carry may stand in an invariant. -/
instance P_storable : (P tb m).IsStorable where
  st q d c := match q with | 0 => stC_storable tb m d (coreOf c)
  dn q d c := match q with | 0 => dnC_storable tb m d (coreOf c)
  go q d c i := match q with | 0 => goT_storable tb m d (coreOf c) (subOf i)
  td q d c i := match q with | 0 => tdT_storable tb m d (coreOf c) (subOf i)

/-! ## The tile's obligation -/

/-- The grid's coordinates of SparseCore `c`'s tile `s`. -/
def coordsV (c : Fin (grid1.bound 0)) (s : Fin (grid1.bound 1)) : grid1.Coords :=
  fun | 0 => c | 1 => s | ⟨_ + 2, h⟩ => absurd h (Nat.not_lt.2 (Nat.le_add_left _ _))

/-- A tile's body: the kernel at the tile's coordinates. -/
theorem defs₀_vector (c : Fin τ.nSC) (s : Fin τ.nSub) :
    defs₀ (F := F) (.scVector c s) 1 ()
      = SparseCore.onTile hcore1 hsub1 (fun c s => cc1__sc_pool (coordsV c s) xV (Memref.isWhole_whole _) pV (Memref.isWhole_whole _)
          oV (Memref.isWhole_whole _) iV (Memref.isWhole_whole _) tV (Memref.isWhole_whole _) shV (Memref.isWhole_whole _) rV (Memref.isWhole_whole _)
          cc1_scratch4 cc1_scratch5 cc1_scoped0 cc1_scoped1 cc1_scoped2) ⟨⟩ c s := rfl

/-- Every tile's run keeps what the launch asks of it. -/
theorem tileObl (hlt : ∀ d l b, rowAt m d l b < 100000) : (K (F := F)).TileObl (D (F := F)) 𝒱 (P tb m) v₀ 0 := by
  intro d c i O W hO hOlev _
  have hci : ((K (F := F)).core 0 c).val < grid1.bound 0 ∧ ((K (F := F)).sub 0 i).val < grid1.bound 1 := ⟨c.isLt, i.isLt⟩
  rw [show (P tb m).ox 0 (V d ((K (F := F)).core 0 c) ((K (F := F)).sub 0 i)) = oxV d ((K (F := F)).core 0 c) from rfl,
    show (P tb m).x 0 (V d ((K (F := F)).core 0 c) ((K (F := F)).sub 0 i)) = kit tb d ((K (F := F)).core 0 c) ((K (F := F)).sub 0 i) from rfl]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body tb m d (coordsV ⟨_, hci.1⟩ ⟨_, hci.2⟩) (hlt d) O W hO hOlev

/-! ## The sequencer's deal -/

/-- The mesh's subcores are the SparseCore's tiles. -/
theorem bigSep_subs (Φ : Fin τ.nSub → sProp 𝕄) :
    (bigSep Finset.univ fun i : Fin ((K (F := F)).nSub 0) => Φ (subOf i)) = bigSep Finset.univ Φ :=
  bigSep_congr fun _ _ => congrArg Φ (Fin.ext rfl)

/-- What tile 0 alone is to have, dealt to all. -/
theorem lead_deal (R : sProp 𝕄) : R ⊢ bigSep Finset.univ fun i : Fin τ.nSub => lead i R := by
  rw [SparseCore.bigSep_erase' (Finset.mem_univ (0 : Fin τ.nSub)), lead_zero rfl]
  rw [bigSep_congr (Ψ := fun _ => (BI.emp : sProp 𝕄)) fun i hi => lead_pos (fun e => (Finset.mem_erase.mp hi).1 (Fin.ext e)) R, bigSep_emp_const]
  iintro H
  isplitl [H]; · iexact H
  iempintro

/-- The shared table is among the sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-- The sequencer's split of what its SparseCore takes, and how what its tiles bring back is what it brings back. -/
theorem vecSplit : (K (F := F)).VecSplit (P tb m) 0 := by
  intro d c
  show iprop(stC tb m d (coreOf c) ∗ ownBufs (S d (coreOf c))) ⊢ |={Set.univ}=> iprop(
      (bigSep Finset.univ fun i : Fin ((K (F := F)).nSub 0) => goT tb m d (coreOf c) (subOf i))
      ∗ ((bigSep Finset.univ fun i : Fin ((K (F := F)).nSub 0) => tdT tb m d (coreOf c) (subOf i))
          -∗ iprop(dnC tb m d (coreOf c) ∗ ownBufs (S d (coreOf c)))))
  rw [bigSep_subs (F := F) (goT tb m d (coreOf c)), bigSep_subs (F := F) (tdT tb m d (coreOf c)), ownBufs_S]
  unfold stC dnC goT tdT
  rw [bigSep_sep', bigSep_sep', bigSep_sep', bigSep_sep', bigSep_sep']
  iintro ⟨⟨Hx, Ho, Hp⟩, Hsh, Hrest⟩; imodintro
  isplitl [Hx Ho Hp Hsh]
  · isplitl [Hx]; · iexact Hx
    isplitl [Ho]; · iexact Ho
    iapply (lead_deal (F := F) (iprop(pAt tb d (coreOf c) ∗ ∃ g : Buf (Elt F) (shLoc d (coreOf c)), shLoc d (coreOf c) ↦{fullShare} g)))
    isplitl [Hp] <;> iassumption
  iintro ⟨Hx, Ho, Hh, Hbars⟩
  isplitl [Hx Ho Hbars]
  · isplitl [Hx]; · iexact Hx
    isplitl [Ho] <;> iassumption
  isplitl [Hh]; · iapply (sh_gather tb d (coreOf c) 1); iexact Hh
  iexact Hrest

end Cert.Proof.Pool

end
-- ==== Proof.Ghost.lean ====
/-
  The certificate's own state at the launch: the barrier semaphores' rounds and the places of the hand-overs, allocated, and
  every tile's kit dealt out of them.
-/
module

public import proofs.«01_k».proof.Proof.Deal

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F] [Named F]

local notation "𝕄" => MT nD τ sig (HIx 3) (Elt F) ℕ UU ℕ

variable (tb : Tab F) (m : (ℓ : Loc nD τ sig) → Buf (Elt F) ℓ)

/-! ## The launch element -/

/-- A tile of a device. -/
abbrev DCI : Type := Dev nD × Fin τ.nSC × Fin τ.nSub
/-- Its barrier semaphore. -/
abbrev bcell₃ (x : DCI) : GSem nD τ sig := bcell x.1 x.2.1 x.2.2

/-- The barrier semaphores: of the free ones, those the certificate takes. -/
def bCells : Finset (GSem nD τ sig) := (Finset.univ : Finset DCI).image bcell₃
/-- A token for every tile's arrival at every barrier, on every tile's semaphore of its SparseCore. -/
def bToks : Finset (GSem nD τ sig × ℕ × Arr) :=
  (Finset.univ : Finset ((DCI × Fin 3) × Fin τ.nSub)).image fun x => (bcell x.1.1.1 x.1.1.2.1 x.2, 0, (x.1.2, x.1.1.2.2))
/-- A token for every hand-over's taking. -/
def eToks : Finset (Key × ℕ × ℕ) := (Finset.univ : Finset Key).image fun x => (x, 0, 0)
/-- The certificate's resources at launch. -/
def u₀ : UU := (initOf (K (F := F)).hsCells (K (F := F)).hsToks, (initOf bCells bToks, (initOf (Finset.univ : Finset Key) eToks,
  (initOf (Pipeline.cells cfgs cellOf_inj) (Pipeline.launchToks cfgs cellOf_inj), 1))))

/-- Two tiles have two barrier semaphores. -/
theorem bcell₃_injective : Function.Injective (bcell₃ : DCI → GSem nD τ sig) := fun a b e => by
  obtain ⟨h1, h2⟩ := Prod.mk.inj (Prod.mk.inj e).1
  obtain ⟨h3, h4⟩ := Proc.scVector.inj h2
  exact Prod.ext h1 (Prod.ext h3 h4)

/-- One thing for each barrier semaphore is one for each tile. -/
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- The arrivals' tokens, tile by tile and barrier by barrier. -/
theorem bToks_eq : (bigSep bToks fun x => (dutyTok EB x.1 x.2.1 x.2.2 : sProp 𝕄))
    = bigSep Finset.univ fun x : DCI => bigSep Finset.univ fun k : Fin 3 => bToksOf x.1 x.2.1 x.2.2 k := by
  unfold bToks
  rw [SparseCore.bigSep_image_of_injOn, bigSep_univ_prod, bigSep_univ_prod]
  · rfl
  · rintro ⟨⟨⟨d, c, i⟩, k⟩, j⟩ - ⟨⟨⟨d', c', i'⟩, k'⟩, j'⟩ - e
    obtain ⟨e1, e2⟩ := Prod.mk.inj e
    obtain ⟨rfl, h⟩ := Prod.mk.inj (Prod.mk.inj e1).1
    obtain ⟨rfl, rfl⟩ := Proc.scVector.inj h
    obtain ⟨rfl, rfl⟩ := Prod.mk.inj (Prod.mk.inj e2).2
    rfl

/-- The tokens of the hand-overs, by hand-over. -/
theorem eToks_eq : (bigSep eToks fun x => (dutyTok EE x.1 x.2.1 x.2.2 : sProp 𝕄)) = bigSep Finset.univ fun x : Key => dutyTok EE x 0 0 := by
  unfold eToks
  rw [SparseCore.bigSep_image_of_injOn (fun a _ b _ e => (Prod.mk.inj e).1)]

/-- The resources at launch are those of the four kinds of rounds. -/
theorem ownU_split (a : UH) (b : UB) (e : UE) (p : UP) :
    (ownU ((a, (b, (e, (p, 1)))) : UU) : sProp 𝕄) ⊢ iprop(BI.own (EH a) ∗ BI.own (EB b) ∗ BI.own (EE e) ∗ BI.own (EP p)) :=
  (BI.own_op_elim (uAll.op_of_mem (Prod.mk_mem_op (URA.mem_op_one a) (URA.mem_one_op (b, (e, (p, (1 : Counters)))))))).trans
    (BI.sep_mono_r ((BI.own_op_elim (uAll.op_of_mem (Prod.mk_mem_op (URA.mem_one_op (1 : UH))
      (Prod.mk_mem_op (URA.mem_op_one b) (URA.mem_one_op (e, (p, (1 : Counters)))))))).trans
      (BI.sep_mono_r (BI.own_op_elim (ER.op_of_mem (Prod.mk_mem_op (URA.mem_op_one e) (URA.mem_one_op (p, (1 : Counters)))))))))

/-! ## The deals -/

/-- Resources named by the tile they are for, dealt by the tile that has them. -/
theorem deal_by (r : Fin τ.nSub → Fin τ.nSub → Bool) (own : Fin τ.nSub → Fin τ.nSub) (h : ∀ i j, r i j = true ↔ i = own j) (Φ : Fin τ.nSub → sProp 𝕄) :
    bigSep Finset.univ Φ = bigSep Finset.univ fun i : Fin τ.nSub => bigSep (Finset.univ.filter fun j => r i j = true) Φ := by
  simp only [bigSep_filter]
  rw [BI.bigSep_univ_comm]
  refine bigSep_congr fun j _ => ?_
  rw [SparseCore.bigSep_erase' (Finset.mem_univ (own j)), if_pos ((h _ _).mpr rfl),
    bigSep_congr (Ψ := fun _ => (BI.emp : sProp 𝕄)) fun i hi => if_neg fun e => (Finset.mem_erase.mp hi).1 ((h _ _).mp e), bigSep_emp_const]
  exact (equiv_iff.mp BI.sep_emp).symm

/-- Resources named by hand-over, dealt to the tiles that have them. -/
theorem key_deal (r : Fin 3 → Fin τ.nSub → Fin τ.nSub → Bool) (own : Fin 3 → Fin τ.nSub → Fin τ.nSub) (h : ∀ k i j, r k i j = true ↔ i = own k j)
    (Φ : Key → sProp 𝕄) :
    bigSep Finset.univ Φ = bigSep Finset.univ fun x : DCI => bigSep Finset.univ fun k : Fin 3 =>
      bigSep (Finset.univ.filter fun j => r k x.2.2 j = true) fun j => Φ ((x.1, x.2.1), k, j) := by
  rw [bigSep_univ_prod, bigSep_univ_prod, bigSep_univ_prod (fun x : DCI => bigSep Finset.univ fun k : Fin 3 =>
      bigSep (Finset.univ.filter fun j => r k x.2.2 j = true) fun j => Φ ((x.1, x.2.1), k, j))]
  refine bigSep_congr fun d _ => ?_
  rw [bigSep_univ_prod (fun x : Fin τ.nSC × Fin τ.nSub => bigSep Finset.univ fun k : Fin 3 =>
      bigSep (Finset.univ.filter fun j => r k x.2 j = true) fun j => Φ ((d, x.1), k, j))]
  refine bigSep_congr fun c _ => ?_
  rw [bigSep_univ_prod]
  exact (bigSep_congr fun k _ => deal_by (r k) (own k) (h k) fun j => Φ ((d, c), k, j)).trans
    (BI.bigSep_univ_comm fun (k : Fin 3) (i : Fin τ.nSub) => bigSep (Finset.univ.filter fun j => r k i j = true) fun j => Φ ((d, c), k, j))

/-- A hand-over is deposited by one tile: the tile it is from at barrier 1, and tile 0 at the others. -/
theorem deposits_own (k : Fin 3) (i j : Fin τ.nSub) : deposits k i j = true ↔ i = if k = 1 then j else 0 := by
  unfold deposits
  split
  · exact decide_eq_true_iff
  · exact decide_eq_true_iff.trans ⟨fun e => Fin.ext e, fun e => congrArg Fin.val e⟩
/-- A hand-over is taken by one tile: tile 0 at barrier 1, and the tile it is to at the others. -/
theorem takes_own (k : Fin 3) (i j : Fin τ.nSub) : takes k i j = true ↔ i = if k = 1 then 0 else j := by
  unfold takes
  split
  · exact decide_eq_true_iff.trans ⟨fun e => Fin.ext e, fun e => congrArg Fin.val e⟩
  · exact decide_eq_true_iff

/-- The rights to deposit, dealt to the tiles. -/
theorem mayGive_deal : (bigSep Finset.univ fun x : Key => (atPos EE x 0 ∅ 0 : sProp 𝕄))
    = bigSep Finset.univ fun x : DCI => bigSep Finset.univ fun k : Fin 3 => mayGive x.1 x.2.1 x.2.2 k :=
  key_deal deposits (fun k j => if k = 1 then j else 0) deposits_own fun x => atPos EE x 0 ∅ 0
/-- The rights to take, dealt to the tiles. -/
theorem mayTake_deal : (bigSep Finset.univ fun x : Key => (dutyTok EE x 0 0 : sProp 𝕄))
    = bigSep Finset.univ fun x : DCI => bigSep Finset.univ fun k : Fin 3 => mayTake x.1 x.2.1 x.2.2 k :=
  key_deal takes (fun k j => if k = 1 then 0 else j) takes_own fun x => dutyTok EE x 0 0

/-- What the tiles of a SparseCore owe together is what their waits take together. -/
theorem owed_eq (d : Dev nD) (c : Fin τ.nSC) :
    ∑ _i : Fin τ.nSub, oxV d c = ∑ j : Fin τ.nSub, ∑ k : Fin 3, (tallyAt (bcell d c j) (some k) 16 : CellTallies nD τ sig (HIx 3)) := by
  have h : oxV d c = ∑ j : Fin τ.nSub, ∑ k : Fin 3, (tallyAt (bcell d c j) (some k) 1 : CellTallies nD τ sig (HIx 3)) := by
    unfold oxV oxB
    rw [Finset.sum_comm, Fin.sum_univ_three]
    abel
  rw [Finset.sum_congr rfl fun _ _ => h, Finset.sum_comm]
  refine Finset.sum_congr rfl fun j _ => ?_
  rw [Finset.sum_comm]
  refine Finset.sum_congr rfl fun k _ => ?_
  rw [Finset.sum_const, Finset.card_univ, Fintype.card_fin]
  have : ∀ n : ℕ, n • (tallyAt (bcell d c j) (some k) 1 : CellTallies nD τ sig (HIx 3)) = tallyAt (bcell d c j) (some k) n := fun n => by
    induction n with
    | zero => rw [zero_nsmul, tallyAt_zero]
    | succ n ih => rw [succ_nsmul, ih, tallyAt_add]
  exact this 16

/-- The credits for what is owed are, tile by tile, those for its three waits. -/
theorem creds_b : ((P tb m).oxCred : sProp 𝕄)
    ⊢ bigSep Finset.univ fun x : DCI => bigSep Finset.univ fun k : Fin 3 => cred (tallyAt (bcell₃ x) (some k) 16) := by
  unfold SparseCore.Cfg.Pay.oxCred
  rw [SparseCore.Cfg.bigSep_threads (fun thr : Thread nD τ => (cred ((P tb m).oxFrom 0 thr) : sProp 𝕄))]
  refine sep_elim_right.trans (sep_elim_right.trans (Entails.of_eq ?_))
  rw [bigSep_univ_prod, bigSep_univ_prod (fun x : DCI => bigSep Finset.univ fun k : Fin 3 => (cred (tallyAt (bcell₃ x) (some k) 16) : sProp 𝕄))]
  refine bigSep_congr fun d _ => ?_
  rw [bigSep_univ_prod, bigSep_univ_prod (fun x : Fin τ.nSC × Fin τ.nSub => bigSep Finset.univ fun k : Fin 3 => (cred (tallyAt (bcell₃ (d, x)) (some k) 16) : sProp 𝕄))]
  refine bigSep_congr fun c _ => ?_
  have hox : ∀ i, (P tb m).oxFrom 0 (V d c i) = oxV d c := fun i => by
    rw [show (0 : ℕ) = (0 : Fin 1).val from rfl, (P tb m).oxFrom_step, (P tb m).oxFrom_end _ (n := (0 : Fin 1).val + 1) le_rfl, add_zero]; rfl
  simp only [hox]
  rw [← SparseCore.Cfg.cred_finsum, owed_eq, SparseCore.Cfg.cred_finsum]
  exact bigSep_congr fun j _ => SparseCore.Cfg.cred_finsum _ _

/-! ## The kits -/

/-- What every tile is handed alike. -/
abbrev shared : sProp 𝕄 :=
  iprop((∃ κ : GSem nD τ sig → ℕ, bigSep Finset.univ fun x : DCI => cellInv EB (bRd (F := F)) (κ (bcell₃ x)) (bcell₃ x))
    ∗ (bigSep Finset.univ fun x : DCI => reached EB (bcell₃ x) 0) ∗ eInvs tb)
/-- What each tile is handed of its own. -/
abbrev mine (x : DCI) : sProp 𝕄 := iprop(atPos EB (bcell₃ x) 0 ∅ 0 ∗ bigSep Finset.univ fun k : Fin 3 => ticket x.1 x.2.1 x.2.2 k)

/-- Of what every tile has, what the tiles of one SparseCore have. -/
theorem dci_at (Φ : DCI → sProp 𝕄) (d : Dev nD) (c : Fin τ.nSC) : bigSep Finset.univ Φ ⊢ bigSep Finset.univ fun i : Fin τ.nSub => Φ (d, c, i) := by
  rw [bigSep_univ_prod]
  refine (SparseCore.ent (bigSep_elim (Finset.mem_univ d))).trans ?_
  rw [bigSep_univ_prod]
  exact SparseCore.ent (bigSep_elim (Φ := fun c : Fin τ.nSC => bigSep Finset.univ fun i : Fin τ.nSub => Φ (d, c, i)) (Finset.mem_univ c))

/-- One thing for each of three barriers. -/
theorem bigSep_three (Φ : Fin 3 → sProp 𝕄) : bigSep Finset.univ Φ = iprop(Φ 0 ∗ Φ 1 ∗ Φ 2) := by
  rw [show (Finset.univ : Finset (Fin 3)) = insert 0 (insert 1 {2}) by decide, SparseCore.bigSep_insert' (by decide), SparseCore.bigSep_insert' (by decide),
    bigSep_singleton]

/-- What all are handed and what a tile is handed of its own make its kit. -/
theorem kit_intro (x : DCI) : iprop(shared tb ∗ mine x) ⊢ (kit tb x.1 x.2.1 x.2.2 : sProp 𝕄) := by
  obtain ⟨d, c, i⟩ := x
  unfold kit known bInvs bOpen
  simp only [mine, shared, bigSep_three]
  iintro ⟨⟨⟨%κ, #Hinv⟩, #Hr, #He⟩, Hat, Ht⟩
  isplitr
  · isplitr
    · iexists κ
      iapply (dci_at (fun x : DCI => cellInv EB (bRd (F := F)) (κ (bcell₃ x)) (bcell₃ x)) d c); iexact Hinv
    isplitr
    · iapply (dci_at (fun x : DCI => reached EB (bcell₃ x) 0) d c); iexact Hr
    iexact He
  isplitl [Hat]; · iexact Hat
  iexact Ht

/-- What is not used up is dealt to each beside its own. -/
theorem deal_each {R : sProp 𝕄} [BI.Persistent R] {Φ Ψ : DCI → sProp 𝕄} (h : ∀ x, iprop(R ∗ Φ x) ⊢ Ψ x) (s : Finset DCI) :
    iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a)
      isplitr; · iexact HR
      iexact H1
    · iapply ih
      isplitr; · iexact HR
      iexact H2

/-- Every tile's kit, as the launch hands it out. -/
theorem kits_deal : iprop(shared tb ∗ bigSep Finset.univ mine)
    ⊢ (bigSep Finset.univ fun thr : Thread nD τ => bigSep Finset.univ fun q : Fin 1 => (P tb m).x q thr : sProp 𝕄) := by
  rw [SparseCore.Cfg.bigSep_threads (fun thr : Thread nD τ => bigSep Finset.univ fun q : Fin 1 => (P tb m).x q thr)]
  simp only [show ∀ thr : Thread nD τ, (bigSep Finset.univ fun q : Fin 1 => (P tb m).x q thr) = (P tb m).x 0 thr from fun thr =>
    bigSep_univ_of_subsingleton (0 : Fin 1)]
  iintro H
  isplitr
  · rw [show (bigSep Finset.univ fun d : Dev nD => (P tb m).x 0 (T d)) = (iprop(emp) : sProp 𝕄) from bigSep_emp_const _]; iempintro
  isplitr
  · rw [show (bigSep Finset.univ fun dc : Dev nD × Fin τ.nSC => (P tb m).x 0 (S dc.1 dc.2)) = (iprop(emp) : sProp 𝕄) from bigSep_emp_const _]; iempintro
  iapply (deal_each (Ψ := fun x : DCI => kit tb x.1 x.2.1 x.2.2) (kit_intro tb) Finset.univ) $$ H

/-! ## The allocations -/

/-- Every barrier semaphore at zero, out of the free semaphores. -/
theorem sems_b : ((K (F := F)).freeOn (· ∈ bCells) : sProp 𝕄) ⊢ bigSep bCells fun g => semVal g 0 := by
  unfold SparseCore.Cfg.freeOn
  rw [bCells_eq]
  refine sep_elim_right.trans (SparseCore.ent (bigSep_mono fun x _ => ?_))
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem bcell₃ (Finset.mem_univ x)⟩)

/-- The barrier semaphores, each put under its invariant. -/
theorem invs_b : iprop((bigSep bCells fun g => (semVal g 0 : sProp 𝕄)) ∗ bigSep bCells fun g => roundState EB (bRd (F := F)) g 0)
    ⊢ |={Set.univ}=> iprop(∃ κ : GSem nD τ sig → ℕ, bigSep bCells fun g => cellInv EB (bRd (F := F)) (κ g) g) := by
  refine (Rounds.bodies_intro EB (bRd (F := F)) bCells).trans ((inv_alloc_family bCells (Rounds.body EB (bRd (F := F))) ∅ (E := Set.univ)).trans ?_)
  iintro H
  imod H with ⟨%κ, -, Hinv⟩
  imodintro; iexists κ; iexact Hinv

/-- The places of the hand-overs, nothing deposited yet. -/
theorem invs_e : (bigSep Finset.univ fun x : Key => initState EE x) ⊢ |={Set.univ}=> (eInvs tb : sProp 𝕄) := by
  have h : (bigSep Finset.univ fun x : Key => initState EE x) ⊢ (bigSep Finset.univ fun x : Key => place tb x : sProp 𝕄) :=
    SparseCore.ent (bigSep_mono fun x _ => show initState EE x ⊢ (place tb x : sProp 𝕄) from by
      unfold place
      iintro ⟨H, -⟩
      ileft; iexact H)
  refine h.trans ((inv_alloc_family Finset.univ (place tb) ∅ (E := Set.univ)).trans ?_)
  unfold eInvs
  iintro H
  imod H with ⟨%κ, -, Hinv⟩
  imodintro; iexists κ; iexact Hinv

/-- What a TensorCore starts its pipeline with: its staging buffers' rounds, none run, and the transfers' tokens. -/
def pipeAt (d : Dev nD) : sProp 𝕄 :=
  iprop(Pipeline.cellsGhost (Pipeline.pin (pcfgs (F := F)) adm) EP 0 d ∗ Pipeline.toksInit (Pipeline.pin (pcfgs (F := F)) adm) EP 0 d)

/-- Each device's start of its pipeline. -/
theorem pipes_deal : BI.own (EP (initOf (Pipeline.cells cfgs cellOf_inj) (Pipeline.launchToks cfgs cellOf_inj)))
    ⊢ |={Set.univ}=> (bigSep Finset.univ fun d : Dev nD => pipeAt (F := F) d : sProp 𝕄) := by
  unfold pipeAt
  simp only [bigSep_sep']
  iintro H
  imod (Pipeline.fund_ghost cfgs EP cellOf_inj) $$ H with ⟨Hg, Ht⟩
  simp only [bigSep_univ_of_subsingleton (0 : Fin 1)]
  imodintro
  isplitl [Hg]; · iexact Hg
  iexact Ht

/-- The launch's state of the certificate: the handshakes', the pipeline's and every tile's kit. -/
theorem hu₀ : iprop(ownU (u₀ (F := F)) ∗ (P tb m).oxCred ∗ (K (F := F)).freeOn (· ∈ bCells))
    ⊢ |={Set.univ}=> iprop(BI.own (EH (initOf (K (F := F)).hsCells (K (F := F)).hsToks)) ∗ (bigSep Finset.univ fun d : Dev nD => pipeAt d)
        ∗ (bigSep Finset.univ fun thr : Thread nD τ => bigSep Finset.univ fun q : Fin 1 => (P tb m).x q thr) : sProp 𝕄) := by
  unfold u₀
  iintro ⟨Hu, Hcred, Hfree⟩
  ihave H := (ownU_split _ _ _ _) $$ Hu
  icases H with ⟨HH, HB, HE, HP⟩
  imod (pipes_deal (F := F)) $$ HP with HP
  imod (Rounds.fund EB (bRd (F := F)) bCells bToks) $$ HB with ⟨Hst, #Hr, Hat, Htok⟩
  imod (Rounds.fund_init EE (Finset.univ : Finset Key) eToks) $$ HE with ⟨Hest, -, Heat, Hetok⟩
  ihave Hsems := (sems_b (F := F)) $$ Hfree
  imod (invs_b (F := F)) $$ [Hsems Hst] with ⟨%κ, #Hinv⟩
  · isplitl [Hsems] <;> iassumption
  imod (invs_e tb) $$ Hest with #He
  ihave Hcred := (creds_b tb m) $$ Hcred
  ihave #Hinv' := (Entails.of_eq (bCells_eq (F := F) fun g => cellInv EB (bRd (F := F)) (κ g) g)) $$ Hinv
  ihave #Hr' := (Entails.of_eq (bCells_eq (F := F) fun g => reached EB g 0)) $$ Hr
  ihave Hat := (Entails.of_eq (bCells_eq (F := F) fun g => atPos EB g 0 ∅ 0)) $$ Hat
  ihave Htok := (Entails.of_eq (bToks_eq (F := F))) $$ Htok
  ihave Hetok := (Entails.of_eq (eToks_eq (F := F))) $$ Hetok
  ihave Hetok := (Entails.of_eq (mayTake_deal (F := F))) $$ Hetok
  ihave Heat := (Entails.of_eq (mayGive_deal (F := F))) $$ Heat
  imodintro
  isplitl [HH]; · iexact HH
  isplitl [HP]; · iexact HP
  iapply (kits_deal tb m)
  isplitr
  · isplitr; · iexists κ; iexact Hinv'
    isplitr; · iexact Hr'
    iexact He
  unfold mine ticket
  simp only [bigSep_sep']
  isplitl [Hat]; · iexact Hat
  isplitl [Htok]; · iexact Htok
  isplitl [Hcred]; · iexact Hcred
  isplitl [Heat]; · iexact Heat
  iexact Hetok

end Cert.Proof.Pool

end
-- ==== Proof.Table.lean ====
/-
  The table `p`: the values the TensorCore's call writes, and one point of its grid. A point takes 20000 rows of the
  embedding table, multiplies each with the weights, adds the bias and scales by 1/200, and stores the 20000 words at its
  place in the result's staging buffer, which stays in place over the five points.
-/
module

public import proofs.«01_k».proof.Proof.Ghost
public import Idealize.ShloMosaic.Lib.Pipeline.ArrRel
public import Idealize.ShloMosaic.Lib.Pipeline.FrameBody
public import Idealize.ShloMosaic.Lib.WritesUnit
public import Idealize.ShloMosaic.Lib.VecWindow

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F] [Named F]

local notation "𝕄" => MT nD τ sig (HIx 3) (Elt F) ℕ UU ℕ

variable (m : (ℓ : Loc nD τ sig) → Buf (Elt F) ℓ)

/-! ## The values -/

/-- The rows of the embedding table that point `t` takes. -/
def rowsAt (d : Dev nD) (t : ℕ) : Vec F S1x20000x128 .f32 := fun i =>
  m (eLoc d) (ix2 (⟨(20000 * t + (i 1).val) % 100000, Nat.mod_lt _ (by decide)⟩ : Fin 100000) (i 2))
/-- The weights. -/
abbrev wRow (d : Dev nD) : Vec F S1x128 .f32 := m (wLoc d)
/-- The bias. -/
abbrev bias (d : Dev nD) : Elt F .f32 := m (bLoc d) (ix1 (0 : Fin 1))

/-- The word of `p` for row `v`. -/
def tbl : Tab F := fun d v =>
  k0_pay1 (rowsAt m d (v / 20000)) (wRow m d) (bias m d) (ix2 (0 : Fin 1) (⟨v % 20000, Nat.mod_lt _ (by decide)⟩ : Fin 20000))

/-- The words below `n` are those of `val`. -/
def Upto (val : ℕ → Elt F .f32) (n : ℕ) (X : S1x1x100096.Idx → Elt F .f32) : Prop := ∀ k : S1x1x100096.Idx, (k 2).val < n → X k = val (k 2).val

/-- A point's words as it stores them. -/
abbrev storeOf (u : FVec F S1x20000 .f32) : FVec F S1x1x20000 .f32 := shapeCast S1x1x20000 u shapeCasts_S1x20000_S1x1x20000

/-- Each of them is the word at its place. -/
theorem storeOf_apply (u : FVec F S1x20000 .f32) (j : Fin 20000) : storeOf u (ix3 (0 : Fin 1) (0 : Fin 1) j) = u (ix2 (0 : Fin 1) j) := by
  refine shapeCast_apply _ _ (ix3 (0 : Fin 1) (0 : Fin 1) j) (ix2 (0 : Fin 1) j) ?_
  rw [Shape.rowMajor_val_two, Shape.rowMajor_val_three]
  simp [ix2, ix3]

/-- A store of a point's words after the first `n`. -/
theorem upto_put (val : ℕ → Elt F .f32) (M : Memref sig .tc .vmem S1x1x100096 .f32) (n o : ℕ) (e : n = o)
    (h : ∀ a, (![0, 0, o] : Fin 3 → ℕ) a + S1x1x20000.size a ≤ S1x1x100096.size a) (u : FVec F S1x20000 .f32)
    (hu : ∀ j : Fin 20000, u (ix2 (0 : Fin 1) j) = val (n + j.val)) (f : M.view.ty.Contents (Elt F)) (hf : Upto val n (M.view.read (Elt F) f)) :
    Upto val (n + 20000) (M.view.read (Elt F) (M.view.writes (Elt F) f [⟨Rect.unit (s := S1x1x100096) ![0, 0, o] S1x1x20000.size h, storeOf u⟩])) := by
  subst e
  intro k hk
  have h0 : (k 0).val < 1 := (k 0).isLt
  have h1 : (k 1).val < 1 := (k 1).isLt
  by_cases hlt : (k 2).val < n
  · rw [View.read_writes_cons_unit_of_not_mem M.view f h (storeOf u) [] k rfl 2 (.inl hlt)]
    exact hf k hlt
  · rw [View.read_writes_cons_unit_of_mem M.view f h (storeOf u) [] k (ix3 (0 : Fin 1) (0 : Fin 1) (⟨(k 2).val - n, by omega⟩ : Fin 20000)) rfl]
    · refine (storeOf_apply u _).trans ((hu _).trans (congrArg val ?_))
      show n + ((k 2).val - n) = _
      omega
    · intro a
      match a with
      | 0 => show (k 0).val = 0 + 0; omega
      | 1 => show (k 1).val = 0 + 0; omega
      | 2 => show (k 2).val = n + ((k 2).val - n); omega

/-- One of the five guarded stores, the load before it included. -/
def slot (M : Memref sig .tc .vmem S1x1x100096 .f32) (g : Prop) [Decidable g] (o : ℕ)
    (h : ∀ a, (![0, 0, o] : Fin 3 → ℕ) a + S1x1x20000.size a ≤ S1x1x100096.size a) (u : FVec F S1x1x20000 .f32) :
    Prog (TpuEff nD τ sig (Elt F) Λ₀ .tc) PUnit :=
  if g then do
    let _ ← Prog.lift (.load M (Rect.unit (s := S1x1x100096) ![0, 0, o] S1x1x20000.size h).toLoadRect (View.loadsAt_vmem h_S1x1x20000))
    Prog.lift (.store M (Rect.unit (s := S1x1x100096) ![0, 0, o] S1x1x20000.size h) u Finset.univ
      (View.stores_vmem_bits_univ h_S1x1x20000 rfl) (.inl rfl))
  else pure ⟨⟩

/-- A guarded store before a rest of the body, the rest spelt in both branches. -/
theorem slot_before (M : Memref sig .tc .vmem S1x1x100096 .f32) (g : Prop) [Decidable g] (o : ℕ)
    (h : ∀ a, (![0, 0, o] : Fin 3 → ℕ) a + S1x1x20000.size a ≤ S1x1x100096.size a) (u : FVec F S1x1x20000 .f32)
    {q q' : Prog (TpuEff nD τ sig (Elt F) Λ₀ .tc) PUnit} (hq : q = q') :
    (if _h : g then (do
        let _ ← Prog.lift (.load M (Rect.unit (s := S1x1x100096) ![0, 0, o] S1x1x20000.size h).toLoadRect (View.loadsAt_vmem h_S1x1x20000))
        Prog.lift (.store M (Rect.unit (s := S1x1x100096) ![0, 0, o] S1x1x20000.size h) u Finset.univ
          (View.stores_vmem_bits_univ h_S1x1x20000 rfl) (.inl rfl))
        q)
      else q) = slot M g o h u >>= fun _ => q' := by
  subst hq
  unfold slot
  split
  · simp only [bind_assoc]
  · rfl

/-- One of the five guarded stores: at its own point it stores the point's words, at another it does nothing. -/
theorem wp_slot (val : ℕ → Elt F .f32) (c : Dev nD) (M : Memref sig .tc .vmem S1x1x100096 .f32) (t j o : ℕ) (ho : o = 20000 * j)
    (g : Prop) [Decidable g] (hg : g ↔ t = j)
    (h : ∀ a, (![0, 0, o] : Fin 3 → ℕ) a + S1x1x20000.size a ≤ S1x1x100096.size a) (u : FVec F S1x20000 .f32)
    (hu : ∀ j : Fin 20000, u (ix2 (0 : Fin 1) j) = val (20000 * t + j.val))
    {Ψ : PUnit → sProp 𝕄} :
    iprop(∃ X, ⌜Upto val (20000 * t + if t < j then 20000 else 0) X⌝ ∗ owns (T c) M fullShare X)
      ⊢ iprop(((∃ X, ⌜Upto val (20000 * t + if t < j + 1 then 20000 else 0) X⌝ ∗ owns (T c) M fullShare X) -∗ Ψ ⟨⟩)
        -∗ wp frame (wpE (defs₀ (F := F)) 𝒱₀ (T c) none) Set.univ (slot M g o h (storeOf u)) Ψ) := by
  unfold owns slot
  iintro ⟨%X, %hX, %f, %hf, H⟩ Hk
  subst hf
  by_cases hc : g
  · rw [if_pos hc]
    have ht : t = j := hg.mp hc
    subst ht
    rw [if_neg (lt_irrefl t), Nat.add_zero] at hX
    sl_exec
    sl_step
    iapply Hk
    iexists _; isplitr; swap
    · iexists _; isplitr; swap
      · iexact H
      · ipureintro; rfl
    · ipureintro
      rw [if_pos (Nat.lt_succ_self t)]
      exact upto_put val M (20000 * t) o ho.symm h u hu f hX
  · rw [if_neg hc]
    have ht : t ≠ j := fun e => hc (hg.mpr e)
    rw [if_congr (show t < j ↔ t < j + 1 by omega) rfl rfl] at hX
    simp only [wp_pure]
    imodintro
    iapply Hk
    iexists _; isplitr; · ipureintro; exact hX
    iexists _; isplitr; swap; · iexact H
    ipureintro; rfl

/-- A guard of the five, as the kernel computes it: whether the point is its own. -/
theorem cond_iff (n : Fin 5) : ∀ x : Fin 5,
    (Scalar.cmpi .ne (Scalar.extui (Scalar.cmpi .eq (BitVec.ofNat 32 x.val) (BitVec.ofNat 32 n.val)) : BitVec 32) 0#32 = 1#1) ↔ x.val = n.val := by
  revert n; decide

/-- The body as its loads and its five guarded stores. -/
theorem body_slots (i : grid0.Coords) (M1 : Memref sig .tc .vmem S1x20000x128 .f32) (h1 : M1.IsWhole) (M2 : Memref sig .tc .vmem S1x128 .f32) (h2 : M2.IsWhole)
    (M3 : Memref sig .tc .smem S1 .f32) (h3 : M3.IsWhole) (M4 : Memref sig .tc .vmem S1x1x100096 .f32) (h4 : M4.IsWhole) :
    (cc0__table_proj_body i M1 h1 M2 h2 M3 h3 M4 h4 : Prog (TpuEff nD τ sig (Elt F) Λ₀ .tc) PUnit) = (do
      let v0 : Vec F S1x20000x128 .f32 ← Prog.lift (.load M1 (Rect.unit (s := S1x20000x128) ![0, 0, 0] S1x20000x128.size inb_S1x20000x128_S1x20000x128_0_0_0).toLoadRect (View.loadsAt_vmem h_S1x20000x128))
      let v2 : Vec F S1x128 .f32 ← Prog.lift (.load M2 (Rect.unit (s := S1x128) ![0, 0] S1x128.size inb_S1x128_S1x128_0_0).toLoadRect (View.loadsAt_vmem h_S1x128))
      let v4 : Elt F .f32 ← smemLoad M3 (Rect.unit (s := S1) ![0] S1.size inb_S1_S1_0) numel1_S1 rfl
      slot M4 (k0_cond1 i = 1#1) 0 inb_S1x1x100096_S1x1x20000_0_0_0 (storeOf (k0_pay1 v0 v2 v4))
      slot M4 (k0_cond2 i = 1#1) 20000 inb_S1x1x100096_S1x1x20000_0_0_20000 (storeOf (k0_pay1 v0 v2 v4))
      slot M4 (k0_cond3 i = 1#1) 40000 inb_S1x1x100096_S1x1x20000_0_0_40000 (storeOf (k0_pay1 v0 v2 v4))
      slot M4 (k0_cond4 i = 1#1) 60000 inb_S1x1x100096_S1x1x20000_0_0_60000 (storeOf (k0_pay1 v0 v2 v4))
      slot M4 (k0_cond5 i = 1#1) 80000 inb_S1x1x100096_S1x1x20000_0_0_80000 (storeOf (k0_pay1 v0 v2 v4))
      pure ⟨⟩) := by
  rw [cc0__table_proj_body_eq_skeleton]
  unfold cc0__table_proj_body_skel
  refine bind_congr fun v0 => bind_congr fun v2 => bind_congr fun v4 => ?_
  refine slot_before M4 _ 0 _ _ (slot_before M4 _ 20000 _ _ (slot_before M4 _ 40000 _ _ (slot_before M4 _ 60000 _ _ (slot_before M4 _ 80000 _ _ rfl))))

/-- The three loads a point begins with, and the rest of the point at the words they read. -/
theorem wp_loads (c : Dev nD) (M1 : Memref sig .tc .vmem S1x20000x128 .f32) (M2 : Memref sig .tc .vmem S1x128 .f32) (M3 : Memref sig .tc .smem S1 .f32)
    (X1 : Vec F S1x20000x128 .f32) (X2 : Vec F S1x128 .f32) (X3 : Vec F S1 .f32)
    (p : Vec F S1x20000x128 .f32 → Vec F S1x128 .f32 → Elt F .f32 → Prog (TpuEff nD τ sig (Elt F) Λ₀ .tc) PUnit) {Ψ : PUnit → sProp 𝕄} :
    iprop(owns (T c) M1 fullShare X1 ∗ owns (T c) M2 fullShare X2 ∗ owns (T c) M3 fullShare X3)
      ⊢ iprop((owns (T c) M1 fullShare X1 ∗ owns (T c) M2 fullShare X2 ∗ owns (T c) M3 fullShare X3
          -∗ wp frame (wpE (defs₀ (F := F)) 𝒱₀ (T c) none) Set.univ (p X1 X2 (X3 (ix1 (0 : Fin 1)))) Ψ)
        -∗ wp frame (wpE (defs₀ (F := F)) 𝒱₀ (T c) none) Set.univ (do
          let v0 : Vec F S1x20000x128 .f32 ← Prog.lift (.load M1 (Rect.unit (s := S1x20000x128) ![0, 0, 0] S1x20000x128.size inb_S1x20000x128_S1x20000x128_0_0_0).toLoadRect (View.loadsAt_vmem h_S1x20000x128))
          let v2 : Vec F S1x128 .f32 ← Prog.lift (.load M2 (Rect.unit (s := S1x128) ![0, 0] S1x128.size inb_S1x128_S1x128_0_0).toLoadRect (View.loadsAt_vmem h_S1x128))
          let v4 : Elt F .f32 ← smemLoad M3 (Rect.unit (s := S1) ![0] S1.size inb_S1_S1_0) numel1_S1 rfl
          p v0 v2 v4) Ψ) := by
  unfold owns
  iintro ⟨⟨%f1, %e1, H1⟩, ⟨%f2, %e2, H2⟩, ⟨%f3, %e3, H3⟩⟩ Hk
  sl_exec
  rw [View.readAt_full M1.view f1, View.readAt_full M2.view f2, e1, e2]
  have r3 : wp_loads.sl.r c M3 f3 = X3 (ix1 (0 : Fin 1)) := by
    subst e3
    exact congrArg (M3.view.read (Elt F) f3) (funext fun a => match a with | ⟨0, _⟩ => Subsingleton.elim (α := Fin 1) _ _)
  rw [r3]
  iapply Hk
  isplitl [H1]; · iexists f1; isplitr; · ipureintro; exact e1
                  iexact H1
  isplitl [H2]; · iexists f2; isplitr; · ipureintro; exact e2
                  iexact H2
  iexists f3; isplitr; · ipureintro; exact e3
  iexact H3

/-- One point: from the rows, the weights and the bias, and the words below the point's own in place, to the words through the
    point's own in place. -/
theorem wp_point (val : ℕ → Elt F .f32) (c : Dev nD) (i : grid0.Coords) (t : ℕ) (hi : (i 0).val = t)
    (M1 : Memref sig .tc .vmem S1x20000x128 .f32) (h1 : M1.IsWhole) (M2 : Memref sig .tc .vmem S1x128 .f32) (h2 : M2.IsWhole)
    (M3 : Memref sig .tc .smem S1 .f32) (h3 : M3.IsWhole) (M4 : Memref sig .tc .vmem S1x1x100096 .f32) (h4 : M4.IsWhole)
    (X1 : Vec F S1x20000x128 .f32) (X2 : Vec F S1x128 .f32) (X3 : Vec F S1 .f32) (X4 : S1x1x100096.Idx → Elt F .f32) (hX : Upto val (20000 * t) X4)
    (hu : ∀ j : Fin 20000, k0_pay1 X1 X2 (X3 (ix1 (0 : Fin 1))) (ix2 (0 : Fin 1) j) = val (20000 * t + j.val)) {Ψ : PUnit → sProp 𝕄} :
    iprop(owns (T c) M1 fullShare X1 ∗ owns (T c) M2 fullShare X2 ∗ owns (T c) M3 fullShare X3 ∗ owns (T c) M4 fullShare X4)
      ⊢ iprop((owns (T c) M1 fullShare X1 ∗ owns (T c) M2 fullShare X2 ∗ owns (T c) M3 fullShare X3
          ∗ (∃ X, ⌜Upto val (20000 * (t + 1)) X⌝ ∗ owns (T c) M4 fullShare X) -∗ Ψ ⟨⟩)
        -∗ wp frame (wpE (defs₀ (F := F)) 𝒱₀ (T c) none) Set.univ (cc0__table_proj_body i M1 h1 M2 h2 M3 h3 M4 h4) Ψ) := by
  have hX' : Upto val (20000 * t + if t < 0 then 20000 else 0) X4 := by rwa [if_neg (Nat.not_lt_zero t), Nat.add_zero]
  have ht : t < 5 := hi ▸ (i 0).isLt
  have hc : ∀ n : Fin 5, (Scalar.cmpi .ne (Scalar.extui (Scalar.cmpi .eq (BitVec.ofNat 32 (i 0).val) (BitVec.ofNat 32 n.val)) : BitVec 32) 0#32 = 1#1) ↔ t = n.val :=
    fun n => (cond_iff n (i 0)).trans (by rw [hi])
  rw [body_slots]
  iintro ⟨H1, H2, H3, H4⟩ Hk
  ihave H4 := (show owns (T c) M4 fullShare X4 ⊢ (iprop(∃ X, ⌜Upto val (20000 * t + if t < 0 then 20000 else 0) X⌝ ∗ owns (T c) M4 fullShare X) : sProp 𝕄) from by
    iintro H; iexists X4; isplitr; · ipureintro; exact hX'
    iexact H) $$ H4
  iapply (wp_loads c M1 M2 M3 X1 X2 X3 _) $$ [$H1 $H2 $H3]
  iintro ⟨H1, H2, H3⟩
  simp only [wp_bind]
  iapply (wp_slot val c M4 t 0 0 rfl (k0_cond1 i = 1#1) (hc 0) _ _ hu) $$ H4
  iintro H4
  iapply (wp_slot val c M4 t 1 20000 rfl (k0_cond2 i = 1#1) (hc 1) _ _ hu) $$ H4
  iintro H4
  iapply (wp_slot val c M4 t 2 40000 rfl (k0_cond3 i = 1#1) (hc 2) _ _ hu) $$ H4
  iintro H4
  iapply (wp_slot val c M4 t 3 60000 rfl (k0_cond4 i = 1#1) (hc 3) _ _ hu) $$ H4
  iintro H4
  iapply (wp_slot val c M4 t 4 80000 rfl (k0_cond5 i = 1#1) (hc 4) _ _ hu) $$ H4
  iintro ⟨%X, %hX5, H4⟩
  rw [if_pos (show t < 4 + 1 from ht)] at hX5
  simp only [wp_pure]
  imodintro
  iapply Hk
  iframe H1 H2 H3
  iexists X; isplitr; · ipureintro; exact hX5
  iexact H4

end Cert.Proof.Pool

end
-- ==== Proof.Region.lean ====
/-
  The TensorCore's call: its pipeline over the five points of its grid, from the grouped embedding table, the weights and
  the bias to the table `p`, of which the words of the 100000 rows are known at its end.
-/
module

public import proofs.«01_k».proof.Proof.Table
public import Idealize.ShloMosaic.Lib.Pipeline.Regions

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

attribute [local instance] blocks

variable {F : FTy → Type} [FloatOps F] [Named F]

local notation "𝕄" => MT nD τ sig (HIx 3) (Elt F) ℕ UU ℕ

variable (m : (ℓ : Loc nD τ sig) → Buf (Elt F) ℓ)

/-! ## The proof data -/

/-- The embedding table in five groups of rows, as the call reads it. -/
def grouped (d : Dev nD) : Buf (Elt F) (rLoc d) := fun i : S5x20000x128.Idx =>
  m (eLoc d) (ix2 (⟨(20000 * (i 0).val + (i 1).val) % 100000, Nat.mod_lt _ (by decide)⟩ : Fin 100000) (i 2))

/-- The arrays at entry. -/
def arr0 (d : Dev nD) : (w : Fin cfg0.W) → Buf (Elt F) ((cfg0.win w).arr.view.loc (d.tc : Thread nD τ))
  | ⟨0, _⟩ => grouped m d
  | ⟨1, _⟩ => m (wLoc d)
  | ⟨2, _⟩ => m (bLoc d)
  | ⟨3, _⟩ => m (pLoc d)

/-- What the body leaves in a staging buffer: an operand's as it was; the result's with the words through the point's own
    in place. -/
def leaves0 (d : Dev nD) : (w : Fin cfg0.W) → Fin cfg0.N → (Y X : (cfg0.win w).block.Idx → Elt F (cfg0.win w).elt) → Prop
  | ⟨0, _⟩ => fun _ Y X => X = Y
  | ⟨1, _⟩ => fun _ Y X => X = Y
  | ⟨2, _⟩ => fun _ Y X => X = Y
  | ⟨3, _⟩ => fun t _ X => Upto (tbl m d) (20000 * (t.val + 1)) X

/-- The call's proof data: nothing beside the windows, and the TensorCore's debts to the call on the SparseCores carried along. -/
def rd (_ : Fin 1) (d : Dev nD) : RDat τ (Elt F) (HIx 3) ℕ UU ℕ cfg0 d where
  A := arr0 m d
  after := leaves0 m d
  Φ _ := BI.emp
  q _ := fullShare
  owed _ := (K (F := F)).Otc d 0
  recorded _ := {p | (K (F := F)).lev (T d, p.1) p.2 ≤ 8 * blocks.fst 0}

/-! ## What the body finds -/

/-- What a fetch puts in an operand's staging buffer, word by word. -/
theorem fetched_at (d : Dev nD) (w : Fin cfg0.W) (t : Fin cfg0.N) (X : (cfg0.win w).block.Idx → Elt F (cfg0.win w).elt) (hc : ∀ a, (cfg0.win w).clip (cfg0.grid.coords t) a = none)
    (j : (cfg0.win w).block.Idx) :
    ∃ h : ∀ a, (j a).val < (cfg0.win w).xsize (cfg0.grid.coords t) a, (rd m 0 d).fetched w t X j = (rd m 0 d).blockOf w t (fun a => ⟨(j a).val, h a⟩) := by
  have hm : (cfg0.win w).moved (cfg0.grid.coords t) j = true :=
    ((cfg0.win w).moved_iff _ j).mpr fun a => by have := (j a).isLt; unfold Pipeline.Window.xsize; rw [hc a]; exact this
  refine ⟨((cfg0.win w).moved_iff _ j).mp hm, ?_⟩
  unfold RDat.fetched Pipeline.Window.fill
  rw [dif_pos hm]

/-- The grid's one coordinate is the point. -/
theorem coord0 : ∀ t : Fin cfg0.N, (grid0.coords t 0).val = t.val := by decide
/-- Window 0's block is the point's. -/
theorem index0 : ∀ t : Fin cfg0.N, cc0_transform_0 (grid0.coords t) 0 = t.val := by decide

/-- The rows' buffer holds the point's rows, -/
theorem found0 (d : Dev nD) (t : Fin cfg0.N) (Y : S1x20000x128.Idx → Elt F .f32) (h : (rd m 0 d).Finds 0 t Y) : Y = rowsAt m d t.val := by
  obtain ⟨X, rfl⟩ := (rd m 0 d).finds_in_eq_fetched 0 rfl (fun _ _ _ => rfl) (fun _ _ _ h => h) t Y h
  funext j
  obtain ⟨hj, e⟩ := fetched_at m d 0 t X (fun _ => rfl) j
  rw [e]
  have h0 : (j 0).val = 0 := by have : (j 0).val < 1 := (j 0).isLt; omega
  refine congrArg (m (eLoc d)) (funext fun a => match a with | ⟨0, _⟩ => Fin.ext ?_ | ⟨1, _⟩ => Fin.ext ?_)
  · show (20000 * (cc0_transform_0 (grid0.coords t) 0 * 1 + 1 * (j 0).val) + (0 * 20000 + 1 * (j 1).val)) % 100000 = (20000 * t.val + (j 1).val) % 100000
    rw [index0, h0]; congr 1; omega
  · show 0 * 128 + 1 * (j 2).val = (j 2).val
    omega

/-- the weights' the weights, -/
theorem found1 (d : Dev nD) (t : Fin cfg0.N) (Y : S1x128.Idx → Elt F .f32) (h : (rd m 0 d).Finds 1 t Y) : Y = wRow m d := by
  obtain ⟨X, rfl⟩ := (rd m 0 d).finds_in_eq_fetched 1 rfl (fun _ _ _ => rfl) (fun _ _ _ h => h) t Y h
  funext j
  obtain ⟨hj, e⟩ := fetched_at m d 1 t X (fun _ => rfl) j
  rw [e]
  refine congrArg (m (wLoc d)) (funext fun a => match a with | ⟨0, _⟩ => Fin.ext ?_ | ⟨1, _⟩ => Fin.ext ?_)
  · show 0 * 1 + 1 * (j 0).val = (j 0).val
    omega
  · show 0 * 128 + 1 * (j 1).val = (j 1).val
    omega

/-- and the bias's the bias. -/
theorem found2 (d : Dev nD) (t : Fin cfg0.N) (Y : S1.Idx → Elt F .f32) (h : (rd m 0 d).Finds 2 t Y) : Y (ix1 (0 : Fin 1)) = bias m d := by
  obtain ⟨X, rfl⟩ := (rd m 0 d).finds_in_eq_fetched 2 rfl (fun _ _ _ => rfl) (fun _ _ _ h => h) t Y h
  obtain ⟨hj, e⟩ := fetched_at m d 2 t X (fun _ => rfl) (ix1 (0 : Fin 1))
  refine e.trans (congrArg (m (bLoc d)) (funext fun a => match a with | ⟨0, _⟩ => Fin.ext ?_))
  show 0 * 1 + 1 * 0 = 0
  rfl

/-- The result's buffer holds the words of the points before. -/
theorem found3 (d : Dev nD) (t : Fin cfg0.N) (Y : S1x1x100096.Idx → Elt F .f32) (h : (rd m 0 d).Finds 3 t Y) : Upto (tbl m d) (20000 * t.val) Y := by
  by_cases ht : t.val = 0
  · intro k hk; rw [ht] at hk; omega
  · have hN : t.val < 5 := t.isLt
    rcases ((rd m 0 d).finds_of_pos (w := 3) rfl ht Y).mp h with hf | ⟨Y', -, hY'⟩
    · have := (flush0_3 _).mp hf
      simp only at this; omega
    · have e : Upto (tbl m d) (20000 * (t.val - 1 + 1)) Y := hY'
      rwa [Nat.sub_add_cancel (Nat.pos_of_ne_zero ht)] at e

/-- The words a point computes are its rows' words of `p`. -/
theorem tbl_point (d : Dev nD) (t : ℕ) (j : Fin 20000) :
    k0_pay1 (rowsAt m d t) (wRow m d) (bias m d) (ix2 (0 : Fin 1) j) = tbl m d (20000 * t + j.val) := by
  have h1 : (20000 * t + j.val) / 20000 = t := by have := j.isLt; omega
  have h2 : (⟨(20000 * t + j.val) % 20000, Nat.mod_lt _ (by decide)⟩ : Fin 20000) = j := Fin.ext (by have := j.isLt; simp only; omega)
  unfold tbl
  rw [h1, h2]

/-! ## The body obligation -/

/-- The body at every point, as the pipeline asks for it. -/
theorem body_ok (d : Dev nD) : (rd m 0 d).BodyObligation (defs₀ (F := F)) 𝒱₀ (none : HIx 3) Set.univ := fun t Y hY => by
  rw [bigSep_W0, bigSep_W0]
  rw [show (defs₀ (F := F)) .tc cfg0.body (cfg0.bodyArgs t (cfg0.slots t)) = bodyAt0 t from rfl]
  have e0 : (Y 0 : S1x20000x128.Idx → Elt F .f32) = rowsAt m d t.val := found0 m d t (Y 0) (hY 0)
  have e1 : (Y 1 : S1x128.Idx → Elt F .f32) = wRow m d := found1 m d t (Y 1) (hY 1)
  have e2 : (Y 2 : S1.Idx → Elt F .f32) (ix1 (0 : Fin 1)) = bias m d := found2 m d t (Y 2) (hY 2)
  have hu : ∀ j : Fin 20000, k0_pay1 (Y 0) (Y 1) ((Y 2 : S1.Idx → Elt F .f32) (ix1 (0 : Fin 1))) (ix2 (0 : Fin 1) j) = tbl m d (20000 * t.val + j.val) := fun j => by
    rw [e0, e1, e2]; exact tbl_point m d t.val j
  iintro ⟨-, HO, H0, H1, H2, H3⟩
  iapply (wp_point (tbl m d) d (grid0.coords t) t.val (coord0 t) _ _ _ _ _ _ _ _ (Y 0) (Y 1) (Y 2) (Y 3) (found3 m d t (Y 3) (hY 3)) hu) $$ [$H0 $H1 $H2 $H3]
  iintro ⟨H0, H1, H2, H3⟩
  isplitr; · iempintro
  isplitl [HO]; · iexact HO
  isplitl [H0]; · iexists Y 0; isplitr; · ipureintro; rfl
                  iexact H0
  isplitl [H1]; · iexists Y 1; isplitr; · ipureintro; rfl
                  iexact H1
  isplitl [H2]; · iexists Y 2; isplitr; · ipureintro; rfl
                  iexact H2
  iexact H3

/-! ## The region -/

/-- What the TensorCore owes over the call, its waits recorded at the lowest level. -/
def debts (d : Dev nD) : sProp 𝕄 :=
  iprop(∃ W, ⌜(K (F := F)).WBelow (T d) W (8 * blocks.fst 0)⌝ ∗ owes (T d) ((K (F := F)).Otc d 0) W)

/-- The debts as the pipeline holds them, before any point and after the last. -/
theorem debts_owesAt (d : Dev nD) (t : Fin (cfg0.N + 1)) : debts (F := F) d ⊢ (rd m 0 d).owesAt (none : HIx 3) t := by
  unfold debts RDat.owesAt Pipeline.owesWithin
  iintro ⟨%W, %hW, H⟩
  iexists W; isplitr; swap; · iexact H
  ipureintro
  exact fun p hp => Or.inl (hW p hp)

/-- And what the pipeline may have waited for is among it. -/
theorem owesAt_debts (d : Dev nD) (t : Fin (cfg0.N + 1)) : (rd m 0 d).owesAt (none : HIx 3) t ⊢ debts (F := F) d := by
  unfold debts RDat.owesAt Pipeline.owesWithin
  iintro ⟨%W, %hW, H⟩
  iexists W; isplitr; swap; · iexact H
  ipureintro
  intro p hp
  rcases hW hp with h | ⟨w, s, rfl⟩
  · exact h
  · rw [SparseCore.Cfg.lev_none]; exact Nat.zero_le _

/-- Window 3's one write-back is of the whole result. -/
theorem whole3 : (cfg0.win 3).WholeAt t0_4 := by decide

/-- What the result's array holds at the end: the words of the rows. -/
theorem tabled_end [∀ e, Nonempty (Elt F e)] (d : Dev nD) (G : S1x1x100096.Idx → Elt F .f32) (hG : (rd m 0 d).ArrAt 3 cfg0.N G) : Tabled (tbl m) d G := by
  obtain ⟨X, ⟨Y, -, hX⟩, hj⟩ := hG.emb_eq_of_wholeAt whole3
  intro k hk
  have hX' : Upto (tbl m d) (20000 * (4 + 1)) X := hX
  exact (hj k).trans (hX' k hk)

/-- Every array is held whole. -/
theorem share_full (d : Dev nD) : ∀ w, (rd m 0 d).share w = fullShare := fun w => by unfold RDat.share; split <;> rfl

/-- The call's buffers when it begins. -/
def regionPre (d : Dev nD) : sProp 𝕄 :=
  iprop(debts (F := F) d ∗ (rLoc d ↦{fullShare} grouped m d) ∗ (wLoc d ↦{fullShare} m (wLoc d)) ∗ (bLoc d ↦{fullShare} m (bLoc d)) ∗ (pLoc d ↦{fullShare} m (pLoc d)))
/-- And when it is over. -/
def regionPost (d : Dev nD) : sProp 𝕄 :=
  iprop(debts (F := F) d ∗ (wLoc d ↦{fullShare} m (wLoc d)) ∗ (bLoc d ↦{fullShare} m (bLoc d)) ∗ ∃ f, ⌜Tabled (tbl m) d f⌝ ∗ (pLoc d ↦{fullShare} f))

-- the windows of `pin pcfgs adm` and those of `cfg0` agree only by unfolding
set_option backward.isDefEq.respectTransparency.types false in
/-- The call as a region of the host's program. -/
def region [∀ e, Nonempty (Elt F e)] : RDat.RegionSeg (pcfgs (F := F)) adm (rd m) (none : HIx 3) (defs₀ (F := F)) 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody d := body_ok m d
  hwaits d := Pipeline.RDat.cellsWaits_intro _ _ _ _ _ fun w s t => (K (F := F)).mayWait_none _ fun g => by
    by_contra h
    have := SparseCore.Cfg.lev_of_Otc_pos (Nat.pos_of_ne_zero h)
    rw [SparseCore.Cfg.lev_none] at this
    omega
  pre d := regionPre m d
  post d := regionPost m d
  X _ := BI.emp
  Y _ := BI.emp
  Z _ := BI.emp
  hentry d := by
    rw [Pipeline.RDat.arrays_eq (pcfgs (F := F)) adm (rd m) 0 d launch0.arr_whole (share_full m d)]
    refine BIBase.Entails.trans ?_ ((sep_mono (Entails.of_eq (bigSep_W0 _).symm) .rfl).trans BI.fupd_intro)
    unfold regionPre Pipeline.prefHeld
    rw [show (Finset.univ : Finset (Fin 0)) = ∅ from rfl, BI.bigSep_empty]
    iintro ⟨⟨HO, H0, H1, H2, H3⟩, -, -⟩
    isplitl [H0 H1 H2 H3]
    · isplitl [H0]; · iexact H0
      isplitl [H1]; · iexact H1
      isplitl [H2]; · iexact H2
      iexact H3
    isplitr; · iempintro
    isplitl [HO]; · iapply (debts_owesAt m d 0) $$ HO
    isplitr <;> iempintro
  hin d := by iintro -; iempintro
  hout d := by
    rw [Pipeline.ownSems0_none, scopedRest0_eq]
    iintro -
    isplitr; · iempintro
    isplitr <;> iempintro
  hexit d := by
    rw [Pipeline.RDat.arraysAt_eq (pcfgs (F := F)) adm (rd m) 0 d launch0.arr_whole (share_full m d)]
    refine (sep_mono (Entails.of_eq (bigSep_W0 _)) .rfl).trans (BIBase.Entails.trans ?_ BI.fupd_intro)
    unfold regionPost
    iintro ⟨⟨-, ⟨%G1, %h1, H1⟩, ⟨%G2, %h2, H2⟩, ⟨%G3, %h3, H3⟩⟩, HO, -, -⟩
    have e1 : G1 = m (wLoc d) := (congrFun ((rd m 0 d).ArrAt_in 1 rfl _) G1).mp h1
    have e2 : G2 = m (bLoc d) := (congrFun ((rd m 0 d).ArrAt_in 2 rfl _) G2).mp h2
    subst e1 e2
    isplitl [HO]; · iapply (owesAt_debts m d _) $$ HO
    isplitl [H1]; · iexact H1
    isplitl [H2]; · iexact H2
    iexists G3; isplitr; · ipureintro; exact tabled_end m d G3 h3
    iexact H3

end Cert.Proof.Pool

end
-- ==== Proof.Main.lean ====
/-
  @main on the TensorCore: the table regrouped, the TensorCore's call, and the call on the SparseCores, from the
  launch's buffers to the words of the output.
-/
module

public import proofs.«01_k».proof.Proof.Deal
public import proofs.«01_k».proof.Proof.Ghost
public import proofs.«01_k».proof.Proof.Region

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type} [FloatOps F] [Named F]

local notation "𝕄" => MT nD τ sig (HIx 3) (Elt F) ℕ UU ℕ

variable (m : (ℓ : Loc nD τ sig) → Buf (Elt F) ℓ)

/-! ## The slices of the tiles -/

/-- Every tile has its own number. -/
theorem tIx_injective {c c' : Fin τ.nSC} {i i' : Fin τ.nSub} (h : tIx c i = tIx c' i') : (c, i) = (c', i') := by
  have h' : 2 * i.val + c.val = 2 * i'.val + c'.val := congrArg Fin.val h
  have hc : c.val < 2 := c.isLt
  have hc' : c'.val < 2 := c'.isLt
  exact Prod.ext (Fin.ext (by show c.val = c'.val; omega)) (Fin.ext (by show i.val = i'.val; omega))

/-- Every number is a tile's. -/
theorem tIx_surjective (w : Fin 32) : ∃ c i, tIx c i = w := by
  have := w.isLt
  exact ⟨(⟨w.val % 2, Nat.mod_lt _ (by decide)⟩ : Fin 2), (⟨w.val / 2, by omega⟩ : Fin 16),
    Fin.ext (by show 2 * (w.val / 2) + w.val % 2 = w.val; omega)⟩

/-- A buffer cut in thirty-two slices is each tile's slice of it. -/
theorem slices_eq {ℓ : Loc nD τ sig} (f : Buf (Elt F) ℓ) (A : Fin 32 → Finset (Idx ℓ)) (hd : ∀ w w', w ≠ w' → Disjoint (A w) (A w'))
    (hu : Finset.univ.biUnion A = Finset.univ) :
    (ℓ ↦{fullShare} f : sProp 𝕄)
      = bigSep Finset.univ fun c : Fin τ.nSC => bigSep Finset.univ fun i : Fin τ.nSub => ℓ ↦[A (tIx c i)]{fullShare} f := by
  have hu' : (Finset.univ : Finset (Fin τ.nSC × Fin τ.nSub)).biUnion (fun ci => A (tIx ci.1 ci.2)) = Finset.univ := by
    refine Finset.eq_univ_iff_forall.mpr fun k => ?_
    obtain ⟨w, -, hw⟩ := Finset.mem_biUnion.mp (hu ▸ Finset.mem_univ k)
    obtain ⟨c, i, rfl⟩ := tIx_surjective w
    exact Finset.mem_biUnion.mpr ⟨(c, i), Finset.mem_univ _, hw⟩
  rw [← hu', pointsTo_biUnion _ _ fun a _ b _ h => hd _ _ fun e => h (tIx_injective e)]
  exact bigSep_univ_prod _

/-- `x` is the tiles' columns of it. -/
theorem x_slices (d : Dev nD) : (xLoc d ↦{fullShare} m (xLoc d) : sProp 𝕄)
    = bigSep Finset.univ fun c : Fin τ.nSC => bigSep Finset.univ fun i : Fin τ.nSub => xMine m d c i :=
  slices_eq (ℓ := xLoc d) (m (xLoc d)) xSet (fun _ _ h => Rect.part_disjoint hdiv_x h) (Rect.biUnion_part hdiv_x)

/-- The output is the tiles' words of it. -/
theorem o_slices (d : Dev nD) (f : Buf (Elt F) (oLoc d)) : (oLoc d ↦{fullShare} f : sProp 𝕄)
    = bigSep Finset.univ fun c : Fin τ.nSC => bigSep Finset.univ fun i : Fin τ.nSub => oMine d c i f :=
  slices_eq (ℓ := oLoc d) f oSet (fun _ _ h => Rect.part_disjoint hdiv_o h) (Rect.biUnion_part hdiv_o)

/-- The table, read by both SparseCores: each its share. -/
theorem p_shares (d : Dev nD) (f : Buf (Elt F) (pLoc d)) : (pLoc d ↦{fullShare} f : sProp 𝕄)
    = bigSep Finset.univ fun c : Fin τ.nSC => pLoc d ↦{shareP c} f := by
  rw [Transfers.pointsTo_deal (Finset.univ : Finset (Fin τ.nSC)) ⟨0, Finset.mem_univ _⟩ fullShare]
  refine bigSep_congr fun c _ => ?_
  unfold Transfers.dealOf
  rw [Finset.card_univ, Fintype.card_fin, show (Finset.univ.filter fun x : Fin τ.nSC => x < c).card = c.val by
    rw [Finset.filter_gt_eq_Iio]; exact Fin.card_Iio c]

/-- A statement of every SparseCore of the call's grid is one of every SparseCore. -/
theorem bigSep_cores (Φ : Fin τ.nSC → sProp 𝕄) :
    (bigSep Finset.univ fun c : Fin ((K (F := F)).nCore 0) => Φ (coreOf c)) = bigSep Finset.univ Φ :=
  bigSep_congr fun _ _ => congrArg Φ (Fin.ext rfl)

/-- A share of the tabulated buffer. -/
theorem pAt_intro (tb : Tab F) (d : Dev nD) (c : Fin τ.nSC) (f : Buf (Elt F) (pLoc d)) (hf : Tabled tb d f) :
    (pLoc d ↦{shareP c} f : sProp 𝕄) ⊢ pAt tb d c := by
  unfold pAt
  iintro H
  iexists f; isplitr; · ipureintro; exact hf
  iexact H

/-- What the two SparseCores take, out of the three buffers whole. -/
theorem st_intro (tb : Tab F) (d : Dev nD) (f : Buf (Elt F) (pLoc d)) (hf : Tabled tb d f) :
    iprop((xLoc d ↦{fullShare} m (xLoc d)) ∗ (oLoc d ↦{fullShare} m (oLoc d)) ∗ (pLoc d ↦{fullShare} f))
      ⊢ (bigSep Finset.univ fun c : Fin ((K (F := F)).nCore 0) => (P tb m).st 0 d c : sProp 𝕄) := by
  rw [show (fun c : Fin ((K (F := F)).nCore 0) => (P tb m).st 0 d c) = fun c => stC tb m d (coreOf c) from rfl, bigSep_cores (F := F) (stC tb m d)]
  unfold stC
  rw [bigSep_sep', bigSep_sep', x_slices, o_slices, p_shares]
  exact sep_mono .rfl (sep_mono .rfl (bigSep_mono fun c _ => pAt_intro tb d c f hf))

/-- What they bring back: `x` as it was, the output written, and every barrier semaphore at zero. -/
theorem dn_elim (tb : Tab F) (d : Dev nD) :
    (bigSep Finset.univ fun c : Fin ((K (F := F)).nCore 0) => (P tb m).dn 0 d c : sProp 𝕄)
      ⊢ iprop((xLoc d ↦{fullShare} m (xLoc d)) ∗ (oLoc d ↦{fullShare} outVal tb m d) ∗ bigSep Finset.univ fun c : Fin τ.nSC => bars d c) := by
  rw [show (fun c : Fin ((K (F := F)).nCore 0) => (P tb m).dn 0 d c) = fun c => dnC tb m d (coreOf c) from rfl, bigSep_cores (F := F) (dnC tb m d)]
  unfold dnC
  rw [bigSep_sep', bigSep_sep', x_slices, o_slices]

/-! ## The table regrouped -/

/-- The regrouping reads row `20000 g + r` of the table at row `r` of group `g`. -/
theorem regroup (d : Dev nD) (i : S5x20000x128.Idx) :
    shapeCast S5x20000x128 (m (eLoc d)) shapeCasts_S100000x128_S5x20000x128 i = grouped m d i := by
  have h0 : (i 0).val < 5 := (i 0).isLt
  have h1 : (i 1).val < 20000 := (i 1).isLt
  refine shapeCast_apply _ _ _ _ ?_
  refine (Shape.rowMajor_val_two (d := S100000x128.size) _).trans (Eq.trans ?_ (Shape.rowMajor_val_three (d := S5x20000x128.size) i).symm)
  show ((20000 * (i 0).val + (i 1).val) % 100000) * 128 + (i 2).val = ((i 0).val * 20000 + (i 1).val) * 128 + (i 2).val
  rw [Nat.mod_eq_of_lt (by omega)]
  ring

/-! ## @main -/

/-- The buffers of @main. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1)
      ∗ (wLoc d ↦{fullShare} W main_arg2) ∗ (bLoc d ↦{fullShare} W main_arg3) ∗ (rLoc d ↦{fullShare} W main_v0)
      ∗ (pLoc d ↦{fullShare} W main_v1) ∗ oLoc d ↦{fullShare} W main_v2) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The buffers' contents before the regrouping. -/
abbrev before (d : Dev nD) : Valuation τ sig (Elt F) := fun b => m (d, b)

/-- The regrouping's operation. -/
abbrev regroupOp : HloOp τ sig (Elt F) := StableHlo.reshape main_arg1 main_v0 rfl shapeCasts_S100000x128_S5x20000x128

/-- The two buffers the regrouping names. -/
theorem regroup_bufs (d : Dev nD) (V : Valuation τ sig (Elt F)) :
    (bigSep (regroupOp (F := F)).bufs fun b => ((d, b) : Loc nD τ sig) ↦{fullShare} V b : sProp 𝕄)
      = iprop((eLoc d ↦{fullShare} V (Proc.devRef .tc main_arg1)) ∗ rLoc d ↦{fullShare} V (Proc.devRef .tc main_v0)) := by
  show (bigSep ({(Proc.devRef .tc main_arg1), (Proc.devRef .tc main_v0)} : Finset (DevRef τ sig)) fun b => ((d, b) : Loc nD τ sig) ↦{fullShare} V b : sProp 𝕄) = _
  rw [SparseCore.bigSep_insert' (by decide), bigSep_singleton]

/-- The table stays as it is, and the second buffer holds it regrouped. -/
theorem regroup_result (d : Dev nD) :
    (regroupOp (F := F)).result (before m d) (Proc.devRef .tc main_arg1) = m (eLoc d) ∧ (regroupOp (F := F)).result (before m d) (Proc.devRef .tc main_v0) = grouped m d :=
  ⟨StableHlo.reshape_result_ne (x := main_arg1) (y := main_v0) _ _ _ _ (before m d) (by decide), (StableHlo.reshape_result main_arg1 main_v0 _ _ _ _ (before m d)).trans (funext fun i => regroup m d i)⟩

/-- The regrouping, at the head of a program. -/
theorem wp_regroup (d : Dev nD) {α : Type} (p : Prog (TpuEff nD τ sig (Elt F) (SparseCore.Sig (Pipeline.Sig Λ₀ (Fin 1) fun p => (pcfgs (F := F) p).Adm) 1) .tc) α) (Φ : α → sProp 𝕄) :
    iprop(boundary (T d) ∗ (eLoc d ↦{fullShare} m (eLoc d)) ∗ (rLoc d ↦{fullShare} m (rLoc d))
        ∗ ((boundary (T d) ∗ (eLoc d ↦{fullShare} m (eLoc d)) ∗ (rLoc d ↦{fullShare} grouped m d))
            -∗ wp frame (wpE ((K (F := F)).defs (D (F := F))) 𝒱 (T d) none) Set.univ p Φ))
      ⊢ wp frame (wpE ((K (F := F)).defs (D (F := F))) 𝒱 (T d) none) Set.univ (hlo rfl (regroupOp (F := F)) fun _ => p) Φ := by
  have h := wp_hlo (defs := (K (F := F)).defs (D (F := F))) 𝒱 (T d) none Set.univ (Γ := .empty) (hp := rfl) (op := regroupOp (F := F)) (k := fun _ => p) (Q := Φ)
    (q := fun _ => fullShare) (F := before m d) (fun _ _ => rfl)
  rw [regroup_bufs, regroup_bufs, (regroup_result m d).1, (regroup_result m d).2] at h
  iintro ⟨Hb, He, Hr, Hk⟩
  iapply h $$ [Hb He Hr]
  · isplitl [Hb]; · iexact Hb
    isplitl [He]; · iexact He
    iexact Hr
  iexact Hk

variable [∀ e, Nonempty (Elt F e)]

/-- The TensorCore's call, which fills the table. -/
theorem wp_table (d : Dev nD) (Φ : PUnit → sProp 𝕄) :
    iprop(((boundary (T d) ∗ regionPost m d) -∗ Φ ⟨⟩) ∗ boundary (T d) ∗ regionPre m d ∗ levAts (K (F := F)).L (K (F := F)).lev ∗ pipeAt d)
      ⊢ wp frame (wpE ((K (F := F)).defs (D (F := F))) 𝒱 (T d) none) Set.univ
          (Prog.lift (.customCall (SparseCore.inner (Pipeline.entry (0 : Fin 1))) ())) Φ := by
  have h := Pipeline.RDat.RegionSeg.wp (pcfgs (F := F)) adm (rd m) (none : HIx 3) cellOf_inj EP (defs₀ (F := F)) 𝒱₀ (K (F := F)).L (K (F := F)).lev
    (region m) d none (fun _ h => nomatch h) (fun _ => .ret ⟨⟩) Φ
  refine BIBase.Entails.trans ?_ ((K (F := F)).wp_liftProg (D (F := F)) 𝒱 (T d) Set.univ none
    (Prog.lift (.customCall (Pipeline.entry (0 : Fin 1)) ())) Φ)
  refine BIBase.Entails.trans ?_ h
  unfold pipeAt
  refine sep_mono (wand_mono .rfl ?_) .rfl
  rw [wp_ret]
  exact BI.fupd_intro

/-- What @main leaves: the arguments as they were, the output written, and every barrier semaphore at zero. -/
abbrev FIN (d : Dev nD) : sProp 𝕄 :=
  iprop((xLoc d ↦{fullShare} m (xLoc d)) ∗ (eLoc d ↦{fullShare} m (eLoc d)) ∗ (wLoc d ↦{fullShare} m (wLoc d)) ∗ (bLoc d ↦{fullShare} m (bLoc d))
    ∗ (oLoc d ↦{fullShare} outVal (tbl m) m d) ∗ bigSep Finset.univ fun c : Fin τ.nSC => bars d c)

variable (ρ : Dev nD → PrngReg)

/-- @main is the regrouping, the TensorCore's call and the call on the SparseCores. -/
theorem main_eq (d : Dev nD) : main (F := F) d = hlo rfl (regroupOp (F := F)) fun _ => (do
    Prog.lift (.customCall (SparseCore.inner (Pipeline.entry (0 : Fin 1))) ())
    (K (F := F)).run d 0
    pure ⟨⟩) := rfl

/-- @main on the TensorCore. -/
theorem hmain (κ : GSem nD τ sig → ℕ) (d : Dev nD) :
    iprop((K (F := F)).ctx EH (P (tbl m) m) κ ∗ (K (F := F)).tcSt EH d 0 ∗ (K (F := F)).tcRes m ρ d ∗ pipeAt d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  rw [main_eq]
  iintro ⟨#Hctx, Hst, ⟨Hb, ⟨Hx, He, Hw, Hbias, Hr, Hp, Ho⟩, Hts, -⟩, Hg⟩
  iapply (wp_regroup m d _ _) $$ [-]
  isplitl [Hb]; · iexact Hb
  isplitl [He]; · iexact He
  isplitl [Hr]; · iexact Hr
  iintro ⟨Hb, He, Hr⟩
  simp only [wp_bind, wp_pure]
  ihave Hlev := ((K (F := F)).ctx_levAts (EH := EH) (P := P (tbl m) m) κ) $$ Hctx
  unfold SparseCore.Cfg.tcSt
  icases Hst with ⟨HO, Hst⟩
  iapply (wp_table m d _) $$ [-]
  isplitr [Hb HO Hr Hw Hbias Hp Hlev Hg]
  swap
  · isplitl [Hb]; · iexact Hb
    isplitl [HO Hr Hw Hbias Hp]
    · unfold regionPre debts
      isplitl [HO]; · iexact HO
      isplitl [Hr]; · iexact Hr
      isplitl [Hw]; · iexact Hw
      isplitl [Hbias]; · iexact Hbias
      iexact Hp
    isplitl [Hlev]; · iexact Hlev
    iexact Hg
  iintro ⟨Hb, Hpost⟩
  unfold regionPost debts
  icases Hpost with ⟨HO, Hw, Hbias, %f, %hf, Hp⟩
  iapply ((K (F := F)).wp_run (D (F := F)) 𝒱 (EH := EH) (P := P (tbl m) m) κ d 0) $$ [-]
  isplitr; · iexact Hctx
  isplitl [HO Hst]
  · unfold SparseCore.Cfg.tcSt
    isplitl [HO]; · iexact HO
    iexact Hst
  isplitl [Hx Ho Hp]
  · iapply (st_intro m (tbl m) d f hf)
    isplitl [Hx]; · iexact Hx
    isplitl [Ho]; · iexact Ho
    iexact Hp
  iintro ⟨Hst, Hdn⟩
  ihave Hdn := (dn_elim m (tbl m) d) $$ Hdn
  icases Hdn with ⟨Hx, Ho, Hbars⟩
  unfold SparseCore.Cfg.tcSt
  imodintro
  isplitl [Hst]; · iexact Hst
  isplitr [Hb Hts]
  · isplitl [Hx]; · iexact Hx
    isplitl [He]; · iexact He
    isplitl [Hw]; · iexact Hw
    isplitl [Hbias]; · iexact Hbias
    isplitl [Ho]; · iexact Ho
    iexact Hbars
  isplitl [Hb] <;> iassumption

/-! ## The end of a run -/

/-- What a finished run's memory holds. -/
def fq (d : Dev nD) (s' : Phys nD τ sig (Elt F)) : Prop :=
  (s'.mem.mem (xLoc d) = m (xLoc d) ∧ s'.mem.mem (eLoc d) = m (eLoc d) ∧ s'.mem.mem (wLoc d) = m (wLoc d) ∧ s'.mem.mem (bLoc d) = m (bLoc d)
    ∧ s'.mem.mem (oLoc d) = outVal (tbl m) m d) ∧ ∀ (c : Fin τ.nSC) (i : Fin τ.nSub), s'.mem.sem (bcell d c i) = 0

/-- A buffer held whole is what the memory holds. -/
theorem held_read (s' : Phys nD τ sig (Elt F)) {ℓ : Loc nD τ sig} (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

/-- The first of what is held, and the rest, beside the memory. -/
theorem read_first {A B : sProp 𝕄} {s' : Phys nD τ sig (Elt F)} {p : Prop} (h : iprop(A ∗ SI s') ⊢ (⌜p⌝ : sProp 𝕄)) :
    iprop((A ∗ B) ∗ SI s') ⊢ (⌜p⌝ : sProp 𝕄) := (sep_mono_left sep_elim_left).trans h

/-- What the rest says beside the memory, all says. -/
theorem read_rest {A B : sProp 𝕄} {s' : Phys nD τ sig (Elt F)} {p : Prop} (h : iprop(B ∗ SI s') ⊢ (⌜p⌝ : sProp 𝕄)) :
    iprop((A ∗ B) ∗ SI s') ⊢ (⌜p⌝ : sProp 𝕄) := (sep_mono_left sep_elim_right).trans h

/-- A barrier semaphore held at zero is at zero. -/
theorem bar_read (d : Dev nD) (s' : Phys nD τ sig (Elt F)) (c : Fin τ.nSC) (i : Fin τ.nSub) :
    iprop((bigSep Finset.univ fun c : Fin τ.nSC => bars d c) ∗ SI s') ⊢ (⌜s'.mem.sem (bcell d c i) = 0⌝ : sProp 𝕄) :=
  (sep_mono_left ((SparseCore.ent (bigSep_elim (Finset.mem_univ c))).trans (SparseCore.ent (bigSep_elim (Finset.mem_univ i))))).trans
    (SparseCore.Cfg.semVal_zero_read _ s')

/-- What @main leaves, read off the memory. -/
theorem hfin (d : Dev nD) (s' : Phys nD τ sig (Elt F)) : iprop(FIN m d ∗ SI s') ⊢ (⌜fq m d s'⌝ : sProp 𝕄) := fun x hx =>
  ⟨⟨read_first (held_read s' _) x hx, read_rest (read_first (held_read s' _)) x hx, read_rest (read_rest (read_first (held_read s' _))) x hx,
    read_rest (read_rest (read_rest (read_first (held_read s' _)))) x hx,
    read_rest (read_rest (read_rest (read_rest (read_first (held_read s' _))))) x hx⟩,
    fun c i => read_rest (read_rest (read_rest (read_rest (read_rest (bar_read d s' c i))))) x hx⟩

/-- The barriers' semaphores end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 c i

/-- What a run ends with: the arguments as they were, the output the sums, and every semaphore at zero. -/
def Ends (r : PUnit × MemSt nD τ sig (Elt F)) : Prop :=
  (∀ d : Dev nD, (r.2.mem (xLoc d) = m (xLoc d) ∧ r.2.mem (eLoc d) = m (eLoc d) ∧ r.2.mem (wLoc d) = m (wLoc d) ∧ r.2.mem (bLoc d) = m (bLoc d))
    ∧ r.2.mem (oLoc d) = outVal (tbl m) m d) ∧ r.2.sem = fun _ => 0

/-- The program's run, at row numbers within the table. -/
theorem run_main (hlt : ∀ d l b, rowAt m d l b < 100000) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (tbl m) m) (hA := hA m) facts v₀
    (fun q hq => match q with | 0 => nomatch hq)
    (fun q _ => match q with | 0 => tileObl (tbl m) m hlt)
    (fun q _ => match q with | 0 => vecSplit (tbl m) m)
    m ρ main pipeAt (FIN m) (u₀ (F := F)) (hu₀ (tbl m) m) (hmain m ρ) (fq m) (hfin m) (Ends m)
    (fun _ h hz => ⟨fun d => ⟨⟨(h d).1.1, (h d).1.2.1, (h d).1.2.2.1, (h d).1.2.2.2.1⟩, (h d).1.2.2.2.2⟩, hz⟩)

end Cert.Proof.Pool

end
-- ==== Proof.Range.lean ====
/-
  The two preconditions read back: what an argument that satisfies them is.

  `Pre_in_range` says that every row number is in `[0, 100000)`; `Pre_in_range_finite` says that and that every word of
  the embedding table and of the weights is a real number.
-/
module

public import proofs.«01_k».proof.Proof.Gen.Pre_in_range
public import proofs.«01_k».proof.Proof.Gen.Pre_in_range_finite
public import proofs.«01_k».proof.Proof.Table
public import Idealize.ShloMosaic.Lib.ReduceAll
public import Idealize.ShloMosaic.Lib.KernelVsHost

@[expose] public section

noncomputable section

namespace Cert.Proof.Pool

open Idealize.ShloMosaic

/-- A result of no axes has one index. -/
theorem scalar_idx : Subsingleton (⟨0, ![]⟩ : Shape).Idx := ⟨fun _ _ => funext fun a => a.elim0⟩

/-- A row number a precondition lets through: signed it is in `[0, 100000)`, hence so it is unsigned. -/
theorem word_in_range {v : BitVec 32} (h : IntOp.andi (IntOp.cmpi .sge v 0#32) (IntOp.cmpi .slt v 100000#32) = 1#1) :
    v.toNat < 100000 := by
  obtain ⟨h0, h1⟩ := IntOp.andi_eq_one.1 h
  have e0 := IntOp.cmpi_sge.1 h0
  have e1 := IntOp.cmpi_slt.1 h1
  have z0 : (0#32).toInt = 0 := by decide
  have z1 : (100000#32).toInt = 100000 := by decide
  rw [z0] at e0
  rw [z1] at e1
  rw [BitVec.toInt_eq_toNat_cond] at e0 e1
  have := v.isLt
  split at e0 <;> omega

/-- A float a precondition lets through is neither infinity. -/
theorem word_finite {x : Ideal .f32}
    (h : FloatOps.cmpf .olt (FloatOps.hostAbsf x) (FloatOps.ofBits (F := Ideal) .f32 0x7F800000#32) = 1#1) :
    (x : EReal) ≠ ⊤ ∧ (x : EReal) ≠ ⊥ := by
  rw [← Ideal.xori_weird_eq_hostAbsf_olt_inf] at h
  constructor
  · rintro rfl
    exact absurd h (by show ¬ IntOp.xori (BitVec.ofBool (decide ((⊤ : EReal) = ⊤ ∨ (⊤ : EReal) = ⊥))) 1#1 = 1#1; simp [IntOp.xori])
  · rintro rfl
    exact absurd h (by show ¬ IntOp.xori (BitVec.ofBool (decide ((⊥ : EReal) = ⊤ ∨ (⊥ : EReal) = ⊥))) 1#1 = 1#1; simp [IntOp.xori])

section InRange

variable {F : FTy → Type} [FloatOps F]

/-- Under `Pre_in_range` every row number is below 100000. -/
theorem in_range_words {x : IVec Cert.Pre_in_range.S200x4096 32} {e : FVec F Cert.Pre_in_range.S100000x128 .f32}
    {w : FVec F Cert.Pre_in_range.S1x128 .f32} {b : FVec F Cert.Pre_in_range.S1 .f32}
    (h : Cert.Pre_in_range.fn x e w b = fun _ => 1#1) (i : Cert.Pre_in_range.S200x4096.Idx) : (x i).toNat < 100000 := by
  haveI := scalar_idx
  exact word_in_range (Host.reduce_andi_all _ _ _ _ ix0 (congrFun h ix0) i)

end InRange

/-- Under `Pre_in_range_finite` every row number is below 100000, and every word of the embedding table and of the
    weights is a real number. -/
theorem finite_words {x : IVec Cert.Pre_in_range_finite.S200x4096 32} {e : FVec Ideal Cert.Pre_in_range_finite.S100000x128 .f32}
    {w : FVec Ideal Cert.Pre_in_range_finite.S1x128 .f32} {b : FVec Ideal Cert.Pre_in_range_finite.S1 .f32}
    (h : Cert.Pre_in_range_finite.fn x e w b = fun _ => 1#1) :
    (∀ i, (x i).toNat < 100000) ∧ (∀ i, (e i : EReal) ≠ ⊤ ∧ (e i : EReal) ≠ ⊥) ∧ (∀ i, (w i : EReal) ≠ ⊤ ∧ (w i : EReal) ≠ ⊥) := by
  haveI := scalar_idx
  obtain ⟨h01, h2⟩ := IntOp.andi_eq_one.1 (congrFun h ix0)
  obtain ⟨h0, h1⟩ := IntOp.andi_eq_one.1 h01
  exact ⟨fun i => word_in_range (Host.reduce_andi_all _ _ _ _ ix0 h0 i), fun i => word_finite (Host.reduce_andi_all _ _ _ _ ix0 h1 i),
    fun i => word_finite (Host.reduce_andi_all _ _ _ _ ix0 h2 i)⟩

section Rows

open Cert.KernelIdeal

variable {F : FTy → Type} [FloatOps F] [Named F] (m : (ℓ : Loc nD τ sig) → Buf (Elt F) ℓ)

/-- Row numbers below 100000 in the array are below 100000 as the kernel reads them. -/
theorem rowAt_lt (h : ∀ (d : Dev nD) (i : S200x4096.Idx), (m (xLoc d) i : BitVec 32).toNat < 100000) (d : Dev nD) (l b : ℕ) :
    rowAt m d l b < 100000 := by
  unfold rowAt
  split
  · exact h d _
  · decide

end Rows

end Cert.Proof.Pool

end
-- ==== Proof.Reference.lean ====
/-
  The reference's result, read at an index: where every row number is below 100000, result `k` is the mean over the 200
  lines of the rows the column names, times the weights, plus the bias.
-/
module

public import proofs.«01_k».proof.Proof.Gen.ReferenceIdeal
public import proofs.«01_k».proof.Proof.Gen.ReferenceIdeal.Run
public import Idealize.ShloMosaic.Lib.ReduceAll
public import Idealize.ShloMosaic.Lib.DynamicIndex
public import Idealize.ShloMosaic.Lib.IdealHost
public import Idealize.ShloMosaic.Lib.Pipeline.Value
public import Idealize.ShloMosaic.Lib.StackMember
public import Idealize.ShloMosaic.Lib.Pointwise.Reduce
public import Idealize.ShloMosaic.Lib.StableHlo.Predicate

@[expose] public section

set_option maxRecDepth 16384

noncomputable section

namespace Cert.Proof.Mean

open Cert.ReferenceIdeal Cert.ReferenceIdeal.Facts₀
open Idealize.ShloMosaic

/-! ## The row numbers -/

variable (x : IVec S200x4096 32) (e : FVec Ideal S100000x128 .f32) (w : FVec Ideal S1x128 .f32) (b : FVec Ideal S1 .f32)

/-- The row numbers the reference takes: a negative one counts from the table's end. -/
def wrapped : IVec S200x4096 32 :=
  select (cmpi .slt x (broadcastInDim S200x4096 ![] bcast_S_S200x4096 (constantI S_ 32 0#32)))
    (addi x (broadcastInDim S200x4096 ![] bcast_S_S200x4096 (constantI S_ 32 100000#32))) x

/-- The same as the gather's start indices. -/
def starts : IVec S200x4096x1 32 := broadcastInDim S200x4096x1 ![0, 1] bcast_S200x4096_S200x4096x1_0_1 (wrapped x)

/-- Whether each start index is inside the table. -/
def inside : IVec S200x4096 1 :=
  Host.reduce IntOp.andi (andi (cmpi .sge (starts x) (broadcastInDim S200x4096x1 ![] bcast_S_S200x4096x1 (constantI S_ 32 0#32)))
    (cmpi .sle (starts x) (broadcastInDim S200x4096x1 ![0, 1, 2] bcast_S1x1x1_S200x4096x1_0_1_2
      (broadcastInDim S1x1x1 ![2] bcast_S1_S1x1x1_2 (constantI S1 32 99999#32))))) (constantI S_ 1 1#1) reducesTo_S200x4096x1_S200x4096_d2 h_S_

/-- The rows taken, with a fill word where a start index is outside the table. -/
def taken : FVec Ideal S200x4096x128 .f32 :=
  select (broadcastInDim S200x4096x128 ![0, 1] bcast_S200x4096_S200x4096x128_0_1 (inside x))
    (Host.gather gather_S100000x128_S200x4096x1_S200x4096x128_2_0_n_n_0_2_1128 e (starts x))
    (broadcastInDim S200x4096x128 ![] bcast_S_S200x4096x128 (constant S_ .f32 0x7FC00000#32))

/-- Their mean over the 200 lines. -/
def mean : FVec Ideal S4096x128 .f32 :=
  Host.divf (Host.reduceAdd (taken x e) (constant S_ .f32 0x00000000#32) reducesTo_S200x4096x128_S4096x128_d0 h_S_)
    (broadcastInDim S4096x128 ![] bcast_S_S4096x128 (constant S_ .f32 0x43480000#32))

/-- The reference's result. -/
def result : FVec Ideal S4096 .f32 :=
  shapeCast _ (addf (Host.dotGeneral dot_S4096x128_S128x1_S4096x1_1_0_0_1_n_n none (mean x e) (transpose S128x1 [1, 0] w transposes_S1x128_S128x1_1_0))
    (broadcastInDim S4096x1 ![0, 1] bcast_S1x1_S4096x1_0_1 (broadcastInDim S1x1 ![1] bcast_S1_S1x1_1 b))) shapeCasts_S4096x1_S4096

section

variable {x} (hx : ∀ i, (x i).toNat < 100000)
include hx

/-- A row number of the table is not negative, so it is taken as it is. -/
theorem wrapped_eq : wrapped x = x := by
  funext i
  have hi := hx i
  refine select_slt_zero_of_nonneg x _ x i ?_
  rw [StableHlo.Predicate.toInt_eq_toNat_of_lt (by omega)]
  omega

/-- The start index at line `l` and column `c`. -/
theorem starts_apply (l : Fin 200) (c : Fin 4096) : starts x (ix3 l c (0 : Fin 1)) = x (ix2 l c) := by
  unfold starts
  rw [wrapped_eq hx]
  refine broadcastInDim_apply _ _ _ _ (ix2 l c) fun a => ?_
  match a with
  | ⟨0, _⟩ => rfl
  | ⟨1, _⟩ => rfl

/-- Every start index is inside the table. -/
theorem inside_apply (k : S200x4096.Idx) : inside x k = 1#1 := by
  refine Host.reduce_andi_one _ _ _ _ _ rfl fun i => ?_
  have e : starts x i = x (ix2 (i 0) (i 1)) := by
    have := starts_apply hx (i 0) (i 1)
    rw [← this]
    refine congrArg _ (funext fun a => Fin.ext ?_)
    match a with
    | ⟨0, _⟩ => rfl
    | ⟨1, _⟩ => rfl
    | ⟨2, _⟩ => have : (i 2).val < 1 := (i 2).isLt; show (i 2).val = 0; omega
  have hi := hx (ix2 (i 0) (i 1))
  have hs := StableHlo.Predicate.toInt_eq_toNat_of_lt (a := x (ix2 (i 0) (i 1))) (by omega)
  show IntOp.andi (IntOp.cmpi .sge (starts x i) 0#32) (IntOp.cmpi .sle (starts x i) 99999#32) = 1#1
  rw [e, IntOp.andi_eq_one, IntOp.cmpi_sge, IntOp.cmpi_sle, hs]
  have z0 : (0#32).toInt = 0 := by decide
  have z1 : (99999#32).toInt = 99999 := by decide
  rw [z0, z1]
  omega

end

/-- The constant the sum is divided by. -/
theorem two_hundred : Ideal.ofBits .f32 0x43480000#32 = ((200 : ℝ) : EReal) := by
  simp [Ideal.ofBits, Ideal.ieee, -EReal.coe_mul]; norm_num

/-! ## The gather -/

/-- The result index `(l, c, j)`'s start index. -/
abbrev startAt (y : S200x4096x128.Idx) : S200x4096x1.Idx := ix3 (y 0) (y 1) (0 : Fin 1)

/-- Axis 1 is not in a list of axis 0 alone. -/
theorem one_notMem (l : List (Fin 2)) (h : l = [0]) : (1 : Fin 2) ∉ l := by subst h; decide

/-- The gather of whole rows, read at `(l, c, j)`: word `j` of the row the start index names, which is clamped into the table. -/
theorem gather_apply (s : IVec S200x4096x1 32) (y : S200x4096x128.Idx) :
    Host.gather gather_S100000x128_S200x4096x1_S200x4096x128_2_0_n_n_0_2_1128 e s y
      = e (ix2 (⟨min (s (startAt y)).toInt.toNat 99999, by omega⟩ : Fin 100000) (y 2)) := by
  unfold Host.gather
  congr 1
  funext a
  refine Fin.ext ?_
  match a with
  | ⟨0, _⟩ =>
    show GatherDims.start _ y s 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S200x4096x1_S200x4096x128_2_0_n_n_0_2_1128.startIndexMap from List.mem_singleton.mpr rfl)]
    have hsi : gather_S100000x128_S200x4096x1_S200x4096x128_2_0_n_n_0_2_1128.siIdx y
        ⟨List.idxOf (0 : Fin 2) gather_S100000x128_S200x4096x1_S200x4096x128_2_0_n_n_0_2_1128.startIndexMap,
          List.idxOf_lt_length_iff.2 (List.mem_singleton.mpr rfl)⟩ = startAt y := by
      funext b
      refine Fin.ext ?_
      match b with
      | ⟨0, _⟩ => rfl
      | ⟨1, _⟩ => rfl
      | ⟨2, _⟩ => rfl
    rw [hsi]
    rfl
  | ⟨1, _⟩ =>
    show GatherDims.start _ y s 1 + GatherDims.batchCoord _ y 1 + GatherDims.offCoord _ y 1 = _
    rw [GatherDims.batchCoord_eq_zero _ _ _ List.not_mem_nil]
    unfold GatherDims.start
    rw [dif_neg (one_notMem gather_S100000x128_S200x4096x1_S200x4096x128_2_0_n_n_0_2_1128.startIndexMap rfl)]
    unfold GatherDims.offCoord
    rw [dif_pos ((GatherDims.mem_sKept _ _).mpr ⟨one_notMem (gather_S100000x128_S200x4096x1_S200x4096x128_2_0_n_n_0_2_1128.collapsedSliceDims) rfl, List.not_mem_nil⟩)]
    simp only [Nat.zero_add, Nat.add_zero]
    rfl

section

variable {x} (hx : ∀ i, (x i).toNat < 100000)
include hx

/-- The word taken at line `l`, column `c` and row position `j`. -/
theorem taken_apply (l : Fin 200) (c : Fin 4096) (j : Fin 128) :
    taken x e (ix3 l c j) = e (ix2 (⟨(x (ix2 l c)).toNat, hx _⟩ : Fin 100000) j) := by
  have hb : broadcastInDim S200x4096x128 ![0, 1] bcast_S200x4096_S200x4096x128_0_1 (inside x) (ix3 l c j) = 1#1 := by
    refine (broadcastInDim_apply _ _ _ _ (ix2 l c) fun a => ?_).trans (inside_apply hx _)
    match a with
    | ⟨0, _⟩ => rfl
    | ⟨1, _⟩ => rfl
  unfold taken
  rw [ValueIdx.select_apply, hb, ValueIdx.select_one, gather_apply]
  have hi := hx (ix2 l c)
  refine congrArg e (funext fun a => Fin.ext ?_)
  match a with
  | ⟨0, _⟩ =>
    show min (starts x (ix3 l c (0 : Fin 1))).toInt.toNat 99999 = _
    rw [starts_apply hx, StableHlo.Predicate.toInt_eq_toNat_of_lt (by omega)]
    show min ((x (ix2 l c)).toNat : ℤ).toNat 99999 = (x (ix2 l c)).toNat
    omega
  | ⟨1, _⟩ => rfl

/-- The mean at column `c` and row position `j`. -/
theorem mean_apply (c : Fin 4096) (j : Fin 128) :
    mean x e (ix2 c j) = Ideal.div (∑ l : Fin 200, e (ix2 (⟨(x (ix2 l c)).toNat, hx _⟩ : Fin 100000) j)) ((200 : ℝ) : EReal) := by
  unfold mean
  rw [ValueIdx.hostDivf_apply, ValueIdx.hostReduceAdd_apply, ValueIdx.broadcastInDim_scalar_apply, Ideal.hostReduceAdd_r3_a0]
  show Ideal.div (Ideal.ofBits .f32 0x00000000#32 + ∑ l : Fin 200, taken x e (ix3 l c j)) (Ideal.ofBits .f32 0x43480000#32) = _
  rw [Ideal.ofBits_zero_f32, zero_add, two_hundred]
  simp only [taken_apply e hx]

/-- The reference's result at column `c`. -/
theorem result_apply (c : Fin 4096) :
    result x e w b (ix1 c)
      = (∑ j : Fin 128, Ideal.div (∑ l : Fin 200, e (ix2 (⟨(x (ix2 l c)).toNat, hx _⟩ : Fin 100000) j)) ((200 : ℝ) : EReal) * w (ix2 (0 : Fin 1) j))
        + b (ix1 (0 : Fin 1)) := by
  unfold result
  rw [shapeCast_apply _ _ _ (ix2 c (0 : Fin 1)) (by rw [Shape.rowMajor_val_two (d := S4096x1.size), Shape.rowMajor_val_one (d := S4096.size)]; show c.val * 1 + 0 = c.val; omega)]
  show (Host.dotGeneral (DotDims.plain 4096 128 1) none (mean x e) (transpose S128x1 [1, 0] w transposes_S1x128_S128x1_1_0) (ix2 c (0 : Fin 1)) : EReal)
    + broadcastInDim S4096x1 ![0, 1] bcast_S1x1_S4096x1_0_1 (broadcastInDim S1x1 ![1] bcast_S1_S1x1_1 b) (ix2 c (0 : Fin 1)) = _
  refine congrArg₂ (· + ·) ((StackMember.dotGeneral_plain_apply none (mean x e) _ c (0 : Fin 1)).trans ?_) ?_
  · refine Finset.sum_congr rfl fun j _ => ?_
    refine congrArg₂ (· * ·) (mean_apply e hx c j) ?_
    refine transpose_apply _ _ _ _ (ix2 (0 : Fin 1) j) fun a => ?_
    match a with
    | ⟨0, _⟩ => rfl
    | ⟨1, _⟩ => rfl
  · refine (broadcastInDim_apply _ _ _ _ (ix2 (0 : Fin 1) (0 : Fin 1)) fun a => ?_).trans
      (broadcastInDim_apply _ _ _ _ (ix1 (0 : Fin 1)) fun a => ?_)
    · match a with
      | ⟨0, _⟩ => rfl
      | ⟨1, _⟩ => rfl
    · match a with
      | ⟨0, _⟩ => rfl

end

end Cert.Proof.Mean

end
-- ==== Proof.Value.lean ====
/-
  The kernel's result and the reference's, over the extended reals.

  The kernel's table holds `(w · e_v + b) / 200` for row `v` and a result is the sum of 200 of its words; the reference's result
  is the mean of 200 rows times the weights, plus the bias. With the rows and the weights real numbers the two are one value,
  whatever extended real the bias is.
-/
module

public import proofs.«01_k».proof.Proof.Table
public import proofs.«01_k».proof.Proof.Range
public import proofs.«01_k».proof.Proof.Reference
public import Idealize.ShloMosaic.Lib.MatmulPlain

@[expose] public section

set_option maxRecDepth 16384

noncomputable section

namespace Cert.Proof.Pool

open Cert.KernelIdeal Cert.KernelIdeal.Gen
open Idealize.ShloMosaic
open scoped BigOperators

/-! ## The equation -/

/-- Copies of `⊤` sum to `⊤`, -/
theorem nsmul_top (n : ℕ) : (n + 1) • (⊤ : EReal) = ⊤ := by
  induction n with
  | zero => simp
  | succ n ih => rw [succ_nsmul, ih]; rfl

/-- and copies of `⊥` to `⊥`. -/
theorem nsmul_bot (n : ℕ) : (n + 1) • (⊥ : EReal) = ⊥ := by
  induction n with
  | zero => simp
  | succ n ih => rw [succ_nsmul, ih]; rfl

/-- A sum of real numbers is their sum as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean of 200 scaled and biased products is the product with the mean, biased. -/
theorem pooled (E : Fin 200 → Fin 128 → ℝ) (W : Fin 128 → ℝ) (b : EReal) :
    ∑ l : Fin 200, ((∑ j : Fin 128, (W j : EReal) * (E l j : EReal)) + b) * ((200⁻¹ : ℝ) : EReal)
      = (∑ j : Fin 128, Ideal.div (∑ l : Fin 200, (E l j : EReal)) ((200 : ℝ) : EReal) * (W j : EReal)) + b := by
  have hl : ∀ l : Fin 200, (∑ j : Fin 128, (W j : EReal) * (E l j : EReal)) = ((∑ j : Fin 128, W j * E l j : ℝ) : EReal) := fun l => by
    rw [coe_sum]
    exact Finset.sum_congr rfl fun j _ => (EReal.coe_mul _ _).symm
  have hr : ∀ j : Fin 128, Ideal.div (∑ l : Fin 200, (E l j : EReal)) ((200 : ℝ) : EReal) * (W j : EReal)
      = (((∑ l : Fin 200, E l j) * 200⁻¹ * W j : ℝ) : EReal) := fun j => by
    unfold Ideal.div
    rw [if_neg (by norm_num), ← coe_sum, ← EReal.coe_inv, ← EReal.coe_mul, ← EReal.coe_mul]
  simp only [hl, hr]
  rw [← coe_sum]
  have hp : (0 : EReal) < ((200⁻¹ : ℝ) : EReal) := by exact_mod_cast (by norm_num : (0 : ℝ) < 200⁻¹)
  induction b with
  | bot =>
    rw [EReal.add_bot]
    simp only [EReal.add_bot, EReal.bot_mul_of_pos hp, Finset.sum_const, Finset.card_univ, Fintype.card_fin]
    exact nsmul_bot 199
  | top =>
    simp only [EReal.coe_add_top, EReal.top_mul_of_pos hp, Finset.sum_const, Finset.card_univ, Fintype.card_fin]
    exact nsmul_top 199
  | coe b =>
    simp only [← EReal.coe_add, ← EReal.coe_mul]
    rw [← coe_sum]
    refine congrArg _ ?_
    rw [← Finset.sum_mul, Finset.sum_add_distrib, Finset.sum_const, Finset.card_univ, Fintype.card_fin, Finset.sum_comm, add_mul]
    congr 1
    · rw [Finset.sum_mul]
      refine Finset.sum_congr rfl fun j _ => ?_
      rw [← Finset.mul_sum]
      ring
    · rw [nsmul_eq_mul]; push_cast; ring

/-! ## The kernel's words -/

variable (m : (ℓ : Loc nD τ sig) → Buf (Elt Ideal) ℓ)

/-- The embedding table as an array of extended reals. -/
abbrev eW (d : Dev nD) : S100000x128.Idx → EReal := m (eLoc d)
/-- The weights. -/
abbrev wW (d : Dev nD) : S1x128.Idx → EReal := m (wLoc d)
/-- The bias. -/
abbrev bW (d : Dev nD) : S1.Idx → EReal := m (bLoc d)

/-- The named constant. -/
theorem inv_seq : (Named.named (F := Ideal) κ "inv_seq" (φ := .f32) 0x3BA3D70A#32 : EReal) = ((200⁻¹ : ℝ) : EReal) :=
  IdealRules.named_const.ideal_named_scalar κ "inv_seq" (φ := .f32) _ _ rfl

/-- The table's word for row `v`. -/
theorem tbl_apply (d : Dev nD) (v : Fin 100000) :
    (tbl m d v.val : EReal) = ((∑ j : Fin 128, wW m d (ix2 (0 : Fin 1) j) * eW m d (ix2 v j)) + bW m d (ix1 (0 : Fin 1)))
      * ((200⁻¹ : ℝ) : EReal) := by
  have hv := v.isLt
  rw [← inv_seq]
  show (((FloatOps.matmul (F := Ideal) (DotDims.transposedRhs 1 128 20000) none (wRow m d)
      (shapeCast S20000x128 (rowsAt m d (v.val / 20000)) shapeCasts_S1x20000x128_S20000x128) (constant S1x20000 .f32 0x00000000#32)
      (ix2 (0 : Fin 1) (⟨v.val % 20000, Nat.mod_lt _ (by decide)⟩ : Fin 20000)) : EReal) + bW m d (ix1 (0 : Fin 1))) * _ : EReal) = _
  refine congrArg (fun z : EReal => (z + bW m d (ix1 (0 : Fin 1))) * (Named.named (F := Ideal) κ "inv_seq" (φ := .f32) 0x3BA3D70A#32 : EReal)) ?_
  refine (Ideal.matmul_transposedRhs_apply none _ _ _ (0 : Fin 1) (⟨v.val % 20000, Nat.mod_lt _ (by decide)⟩ : Fin 20000)).trans ?_
  show Ideal.ofBits .f32 0x00000000#32 + _ = _
  rw [Ideal.ofBits_zero_f32, zero_add]
  refine Finset.sum_congr rfl fun j _ => congrArg₂ (· * ·) rfl ?_
  refine (shapeCast_apply _ _ _ (ix3 (0 : Fin 1) (⟨v.val % 20000, Nat.mod_lt _ (by decide)⟩ : Fin 20000) j) ?_).trans ?_
  · rw [Shape.rowMajor_val_three (d := S1x20000x128.size), Shape.rowMajor_val_two (d := S20000x128.size)]
    show (0 * 20000 + v.val % 20000) * 128 + j.val = v.val % 20000 * 128 + j.val
    omega
  · show eW m d (ix2 (⟨(20000 * (v.val / 20000) + v.val % 20000) % 100000, _⟩ : Fin 100000) j) = _
    refine congrArg (fun r : Fin 100000 => eW m d (ix2 r j)) (Fin.ext ?_)
    show (20000 * (v.val / 20000) + v.val % 20000) % 100000 = v.val
    omega

/-- The kernel's sum in order is the sum. -/
theorem sumTo_eq (tb : Tab Ideal) (d : Dev nD) (b n : ℕ) : (sumTo tb m d b n : EReal) = ∑ l ∈ Finset.range n, (tb d (rowAt m d l b) : EReal) := by
  induction n with
  | zero => exact Ideal.ofBits_zero_f32
  | succ n ih => rw [Finset.sum_range_succ, ← ih]; rfl

/-- The kernel's result is the reference's of the same arguments: row numbers in the table, rows and weights real numbers. -/
theorem outVal_eq (d : Dev nD) (hx : ∀ i : S200x4096.Idx, (m (xLoc d) i : BitVec 32).toNat < 100000)
    (he : ∀ i : S100000x128.Idx, eW m d i ≠ ⊤ ∧ eW m d i ≠ ⊥)
    (hw : ∀ i : S1x128.Idx, wW m d i ≠ ⊤ ∧ wW m d i ≠ ⊥) :
    outVal (tbl m) m d = Mean.result (m (xLoc d)) (eW m d) (wW m d) (bW m d) := by
  funext k
  have hk : k = ix1 (k 0) := by
    funext a
    match a with
    | ⟨0, _⟩ => rfl
  obtain ⟨c, rfl⟩ : ∃ c : Fin 4096, k = ix1 c := ⟨k 0, hk⟩
  refine Eq.trans ?_ (Mean.result_apply (eW m d) (wW m d) (bW m d) hx c).symm
  show (sumTo (tbl m) m d c.val 200 : EReal) = _
  rw [sumTo_eq, Finset.sum_range]
  have hr : ∀ l : Fin 200, rowAt m d l.val c.val = (⟨(m (xLoc d) (ix2 l c) : BitVec 32).toNat, hx _⟩ : Fin 100000).val := fun l =>
    dif_pos ⟨l.isLt, c.isLt⟩
  have hE : ∀ i : S100000x128.Idx, eW m d i = (((eW m d i).toReal : ℝ) : EReal) := fun i => (EReal.coe_toReal (he i).1 (he i).2).symm
  have hW : ∀ i : S1x128.Idx, wW m d i = (((wW m d i).toReal : ℝ) : EReal) := fun i => (EReal.coe_toReal (hw i).1 (hw i).2).symm
  have key := pooled (fun l j => (eW m d (ix2 (⟨(m (xLoc d) (ix2 l c) : BitVec 32).toNat, hx _⟩ : Fin 100000) j)).toReal)
    (fun j => (wW m d (ix2 (0 : Fin 1) j)).toReal) (bW m d (ix1 (0 : Fin 1)))
  simp only [← hE, ← hW] at key
  refine Eq.trans (Finset.sum_congr rfl fun l _ => ?_) key
  rw [hr l]
  exact tbl_apply m d _

end Cert.Proof.Pool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Main
public import proofs.«01_k».proof.Proof.Range
public import proofs.«01_k».proof.Proof.Reference
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-! ## The kernel as it is -/

/-- The named constant at the bits: the pattern the kernel holds. -/
@[instance_reducible] def namedBits : Named Bits where
  named _ _ {φ} bits := FloatOps.ofBits φ bits

section AtBits

attribute [local instance] namedBits

/-- The two kernels' table bodies are one, -/
theorem body0_eq : @Cert.Kernel.cc0__table_proj_body Bits _ _ = @Cert.KernelIdeal.cc0__table_proj_body Bits _ _ _ := rfl

/-- and so are their tile bodies, -/
theorem body1_eq : @Cert.Kernel.cc1__sc_pool Bits _ _ = @Cert.KernelIdeal.cc1__sc_pool Bits _ _ := rfl

/-- hence the programs they name, processor by processor, -/
theorem defs₀_eq : Cert.Kernel.defs₀ (F := Bits) = Cert.KernelIdeal.defs₀ (F := Bits) := by
  funext k ℓ a
  have hℓ : ℓ = (0 : Fin 2) ∨ ℓ = (1 : Fin 2) := by
    match ℓ with
    | ⟨0, _⟩ => exact .inl rfl
    | ⟨1, _⟩ => exact .inr rfl
  rcases hℓ with rfl | rfl
  · cases k
    · obtain ⟨t, s⟩ := a
      rfl
    · rfl
    · rfl
  · cases k <;> rfl

set_option maxHeartbeats 4000000 in
/-- the table of the launch's programs, -/
theorem defs_eq : Cert.Kernel.defs (F := Bits) = Cert.KernelIdeal.defs (F := Bits) := by
  unfold Cert.Kernel.defs Cert.KernelIdeal.defs
  rw [defs₀_eq]
  rfl

/-- and the threads' programs. -/
theorem threads_eq : Cert.Kernel.threads (F := Bits) = Cert.KernelIdeal.threads (F := Bits) := rfl

set_option maxHeartbeats 4000000 in
/-- The kernel's run at the bits. -/
theorem frame_bits [Cert.Pre_in_range.Facts] : quiescent_Kernel := by
  intro m g hp
  rw [defs_eq, threads_eq]
  exact (θ_run (Cert.KernelIdeal.defs (F := Bits)) (Cert.KernelIdeal.threads (F := Bits)) _).mono (fun _ h => ⟨fun c => (h.1 c).1, h.2⟩)
    (Pool.run_main (F := Bits) m g (Pool.rowAt_lt m fun d i => Pool.in_range_words (hp d) i))

end AtBits

/-! ## The ideal kernel -/

/-- The ideal kernel's run, its row numbers in range. -/
theorem frame_ideal [Cert.Pre_in_range.Facts] : quiescent_KernelIdeal := fun m g hp =>
  (θ_run (Cert.KernelIdeal.defs (F := Ideal)) (Cert.KernelIdeal.threads (F := Ideal)) _).mono (fun _ h => ⟨fun c => (h.1 c).1, h.2⟩)
    (Pool.run_main (F := Ideal) m g (Pool.rowAt_lt m fun d i => Pool.in_range_words (hp d) i))

/-- The same where rows and weights are finite besides. -/
theorem frame_ideal_finite [Cert.Pre_in_range_finite.Facts] : quiescent_KernelIdeal_pre_in_range_finite := fun m g hp =>
  (θ_run (Cert.KernelIdeal.defs (F := Ideal)) (Cert.KernelIdeal.threads (F := Ideal)) _).mono (fun _ h => ⟨fun c => (h.1 c).1, h.2⟩)
    (Pool.run_main (F := Ideal) m g (Pool.rowAt_lt m fun d i => (Pool.finite_words (hp d)).1 i))

/-! ## The reference -/

/-- The reference's run: it holds no semaphore. -/
theorem frame_reference : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-! ## The result -/

/-- The ideal kernel and the reference end with the same array. -/
theorem same_result [Cert.Pre_in_range_finite.Facts] : algebraic_KernelIdeal_ReferenceIdeal_pre_in_range_finite := by
  intro m g m' g' hp hagree
  refine ⟨fun c => Pool.outVal (Pool.tbl m) m c, ?_, ?_⟩
  · exact (θ_run (Cert.KernelIdeal.defs (F := Ideal)) (Cert.KernelIdeal.threads (F := Ideal)) _).mono (fun _ h c => ⟨(h.1 c).2, (h.1 c).1⟩)
      (Pool.run_main (F := Ideal) m g (Pool.rowAt_lt m fun d i => (Pool.finite_words (hp d)).1 i))
  · refine (θ_run Cert.ReferenceIdeal.defs _ _).mono (fun _ h c => ⟨(h c).1.trans ?_, (h c).2⟩) (Cert.ReferenceIdeal.Value.run (F := Ideal) m' g')
    obtain ⟨h0, h1, h2⟩ := Pool.finite_words (hp c)
    refine Eq.trans ?_ (Pool.outVal_eq m c h0 h1 h2).symm
    rw [(hagree c).1, (hagree c).2.1, (hagree c).2.2.1, (hagree c).2.2.2]
    rfl

/-- The claim. -/
theorem claim : Cert.Claim := ⟨Cert.Kernel.Gen.facts, Cert.KernelIdeal.Gen.facts, Cert.ReferenceIdeal.Gen.facts, Cert.Pre_in_range.Gen.facts, Cert.Pre_in_range_finite.Gen.facts,
  frame_bits, frame_ideal, frame_ideal_finite, frame_reference, fun m g _ => frame_reference m g trivial,
  IdealRules.named_const.statement Cert.KernelIdeal.κ "inv_seq" .f32 0x3BA3D70A#32 _ rfl, same_result⟩

end Cert.Proof

end
